-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S256x512 : Shape := ⟨2, ![256, 512]⟩
abbrev S10 : Shape := ⟨1, ![10]⟩
abbrev S14 : Shape := ⟨1, ![14]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v26 : BitVec 32 := Scalar.muli v2 c4_i32_16
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v28 : BitVec 32 := Scalar.muli v5 c2_i32_17
  let v29 : BitVec 32 := Scalar.addi v27 v28
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_18 : BitVec 32 := 1#32
  let v30 : BitVec 32 := Scalar.muli v17 c1_i32_18
  let v31 : BitVec 32 := Scalar.addi v29 v30
  v31.toNat
def k0_dev2 (d0 : Dev nD) : Nat :=
  let c0_i32_21 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_20 : BitVec 32 := 4#32
  let v32 : BitVec 32 := Scalar.muli v18 c4_i32_20
  let v33 : BitVec 32 := Scalar.addi c0_i32_21 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v34 : BitVec 32 := Scalar.muli v5 c2_i32_22
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v36 : BitVec 32 := Scalar.muli v8 c1_i32_23
  let v37 : BitVec 32 := Scalar.addi v35 v36
  v37.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v38 : BitVec 32 := Scalar.muli v2 c4_i32_25
  let v39 : BitVec 32 := Scalar.addi c0_i32_26 v38
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_27 : BitVec 32 := 2#32
  let v40 : BitVec 32 := Scalar.muli v19 c2_i32_27
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v42 : BitVec 32 := Scalar.muli v8 c1_i32_28
  let v43 : BitVec 32 := Scalar.addi v41 v42
  v43.toNat
def k0_off1 (d0 : Dev nD) (c0_i32_31 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let v47 : BitVec 32 := Scalar.addi v44 c0_i32_31
  let c0_i32_40 : BitVec 32 := 0#32
  ![v47.toNat, 0]
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v48 : BitVec 32 := Scalar.muli v2 c4_i32_34
  let v49 : BitVec 32 := Scalar.addi c0_i32_35 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v50 : BitVec 32 := Scalar.muli v5 c2_i32_36
  let v51 : BitVec 32 := Scalar.addi v49 v50
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_37 : BitVec 32 := 1#32
  let v52 : BitVec 32 := Scalar.muli v17 c1_i32_37
  let v53 : BitVec 32 := Scalar.addi v51 v52
  v53.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v61 : BitVec 32 := Scalar.muli v2 c4_i32_43
  let v62 : BitVec 32 := Scalar.addi c0_i32_44 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v63 : BitVec 32 := Scalar.muli v5 c2_i32_45
  let v64 : BitVec 32 := Scalar.addi v62 v63
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_46 : BitVec 32 := 1#32
  let v65 : BitVec 32 := Scalar.muli v17 c1_i32_46
  let v66 : BitVec 32 := Scalar.addi v64 v65
  v66.toNat
def k0_dev6 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v74 : BitVec 32 := Scalar.muli v2 c4_i32_52
  let v75 : BitVec 32 := Scalar.addi c0_i32_53 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v76 : BitVec 32 := Scalar.muli v5 c2_i32_54
  let v77 : BitVec 32 := Scalar.addi v75 v76
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_55 : BitVec 32 := 1#32
  let v78 : BitVec 32 := Scalar.muli v17 c1_i32_55
  let v79 : BitVec 32 := Scalar.addi v77 v78
  v79.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v87 : BitVec 32 := Scalar.muli v2 c4_i32_61
  let v88 : BitVec 32 := Scalar.addi c0_i32_62 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v89 : BitVec 32 := Scalar.muli v5 c2_i32_63
  let v90 : BitVec 32 := Scalar.addi v88 v89
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_64 : BitVec 32 := 1#32
  let v91 : BitVec 32 := Scalar.muli v17 c1_i32_64
  let v92 : BitVec 32 := Scalar.addi v90 v91
  v92.toNat
def k0_dev8 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v100 : BitVec 32 := Scalar.muli v2 c4_i32_70
  let v101 : BitVec 32 := Scalar.addi c0_i32_71 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v102 : BitVec 32 := Scalar.muli v5 c2_i32_72
  let v103 : BitVec 32 := Scalar.addi v101 v102
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_73 : BitVec 32 := 1#32
  let v104 : BitVec 32 := Scalar.muli v17 c1_i32_73
  let v105 : BitVec 32 := Scalar.addi v103 v104
  v105.toNat
def k0_dev9 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v113 : BitVec 32 := Scalar.muli v2 c4_i32_79
  let v114 : BitVec 32 := Scalar.addi c0_i32_80 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v115 : BitVec 32 := Scalar.muli v5 c2_i32_81
  let v116 : BitVec 32 := Scalar.addi v114 v115
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_82 : BitVec 32 := 1#32
  let v117 : BitVec 32 := Scalar.muli v17 c1_i32_82
  let v118 : BitVec 32 := Scalar.addi v116 v117
  v118.toNat
def k0_dev10 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v126 : BitVec 32 := Scalar.muli v2 c4_i32_87
  let v127 : BitVec 32 := Scalar.addi c0_i32_88 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v128 : BitVec 32 := Scalar.muli v5 c2_i32_89
  let v129 : BitVec 32 := Scalar.addi v127 v128
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_90 : BitVec 32 := 1#32
  let v130 : BitVec 32 := Scalar.muli v17 c1_i32_90
  let v131 : BitVec 32 := Scalar.addi v129 v130
  v131.toNat
def k0_dev11 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v139 : BitVec 32 := Scalar.muli v2 c4_i32_95
  let v140 : BitVec 32 := Scalar.addi c0_i32_96 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v141 : BitVec 32 := Scalar.muli v5 c2_i32_97
  let v142 : BitVec 32 := Scalar.addi v140 v141
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_98 : BitVec 32 := 1#32
  let v143 : BitVec 32 := Scalar.muli v17 c1_i32_98
  let v144 : BitVec 32 := Scalar.addi v142 v143
  v144.toNat
def k0_off2 (d0 : Dev nD) (c0_i32_113 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let v165 : BitVec 32 := Scalar.addi v44 c0_i32_113
  let v166 : Index := Scalar.indexCast v165
  let c0 : Index := 0#32
  ![v166.toNat, 0]
def k0_cond1 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c0_i32_119 : BitVec 32 := 0#32
  let v175 : BitVec 1 := Scalar.cmpi .ne v20 c0_i32_119
  let v176 : BitVec 32 := Scalar.extui v175
  let c0_i32_122 : BitVec 32 := 0#32
  let v177 : BitVec 1 := Scalar.cmpi .ne v176 c0_i32_122
  v177

def k0_off3 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_118 : BitVec 32 := 0#32
  let v174 : BitVec 32 := Scalar.addi v44 c0_i32_118
  let c0_i32_736 : BitVec 32 := 0#32
  ![v174.toNat, 0]
def k0_dev12 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond2 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c0_i32_124 : BitVec 32 := 0#32
  let v179 : BitVec 1 := Scalar.cmpi .ne v21 c0_i32_124
  let v180 : BitVec 32 := Scalar.extui v179
  let c0_i32_127 : BitVec 32 := 0#32
  let v181 : BitVec 1 := Scalar.cmpi .ne v180 c0_i32_127
  v181

def k0_off4 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_123 : BitVec 32 := 0#32
  let v178 : BitVec 32 := Scalar.addi v44 c0_i32_123
  let c0_i32_736 : BitVec 32 := 0#32
  ![v178.toNat, 0]
def k0_dev13 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond3 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c1_i32_143 : BitVec 32 := 1#32
  let v202 : BitVec 1 := Scalar.cmpi .ne v20 c1_i32_143
  let v203 : BitVec 32 := Scalar.extui v202
  let c0_i32_146 : BitVec 32 := 0#32
  let v204 : BitVec 1 := Scalar.cmpi .ne v203 c0_i32_146
  v204

def k0_off5 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_142 : BitVec 32 := 32#32
  let v201 : BitVec 32 := Scalar.addi v44 c32_i32_142
  let c0_i32_736 : BitVec 32 := 0#32
  ![v201.toNat, 0]
def k0_dev14 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond4 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c1_i32_148 : BitVec 32 := 1#32
  let v206 : BitVec 1 := Scalar.cmpi .ne v21 c1_i32_148
  let v207 : BitVec 32 := Scalar.extui v206
  let c0_i32_151 : BitVec 32 := 0#32
  let v208 : BitVec 1 := Scalar.cmpi .ne v207 c0_i32_151
  v208

def k0_off6 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_147 : BitVec 32 := 32#32
  let v205 : BitVec 32 := Scalar.addi v44 c32_i32_147
  let c0_i32_736 : BitVec 32 := 0#32
  ![v205.toNat, 0]
def k0_dev15 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond5 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c2_i32_167 : BitVec 32 := 2#32
  let v229 : BitVec 1 := Scalar.cmpi .ne v20 c2_i32_167
  let v230 : BitVec 32 := Scalar.extui v229
  let c0_i32_170 : BitVec 32 := 0#32
  let v231 : BitVec 1 := Scalar.cmpi .ne v230 c0_i32_170
  v231

def k0_off7 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_166 : BitVec 32 := 64#32
  let v228 : BitVec 32 := Scalar.addi v44 c64_i32_166
  let c0_i32_736 : BitVec 32 := 0#32
  ![v228.toNat, 0]
def k0_dev16 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond6 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c2_i32_172 : BitVec 32 := 2#32
  let v233 : BitVec 1 := Scalar.cmpi .ne v21 c2_i32_172
  let v234 : BitVec 32 := Scalar.extui v233
  let c0_i32_175 : BitVec 32 := 0#32
  let v235 : BitVec 1 := Scalar.cmpi .ne v234 c0_i32_175
  v235

def k0_off8 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_171 : BitVec 32 := 64#32
  let v232 : BitVec 32 := Scalar.addi v44 c64_i32_171
  let c0_i32_736 : BitVec 32 := 0#32
  ![v232.toNat, 0]
def k0_dev17 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond7 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c3_i32_191 : BitVec 32 := 3#32
  let v256 : BitVec 1 := Scalar.cmpi .ne v20 c3_i32_191
  let v257 : BitVec 32 := Scalar.extui v256
  let c0_i32_194 : BitVec 32 := 0#32
  let v258 : BitVec 1 := Scalar.cmpi .ne v257 c0_i32_194
  v258

def k0_off9 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_190 : BitVec 32 := 96#32
  let v255 : BitVec 32 := Scalar.addi v44 c96_i32_190
  let c0_i32_736 : BitVec 32 := 0#32
  ![v255.toNat, 0]
def k0_dev18 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond8 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c3_i32_196 : BitVec 32 := 3#32
  let v260 : BitVec 1 := Scalar.cmpi .ne v21 c3_i32_196
  let v261 : BitVec 32 := Scalar.extui v260
  let c0_i32_199 : BitVec 32 := 0#32
  let v262 : BitVec 1 := Scalar.cmpi .ne v261 c0_i32_199
  v262

def k0_off10 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_195 : BitVec 32 := 96#32
  let v259 : BitVec 32 := Scalar.addi v44 c96_i32_195
  let c0_i32_736 : BitVec 32 := 0#32
  ![v259.toNat, 0]
def k0_dev19 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond9 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c4_i32_215 : BitVec 32 := 4#32
  let v283 : BitVec 1 := Scalar.cmpi .ne v20 c4_i32_215
  let v284 : BitVec 32 := Scalar.extui v283
  let c0_i32_218 : BitVec 32 := 0#32
  let v285 : BitVec 1 := Scalar.cmpi .ne v284 c0_i32_218
  v285

def k0_off11 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_214 : BitVec 32 := 128#32
  let v282 : BitVec 32 := Scalar.addi v44 c128_i32_214
  let c0_i32_736 : BitVec 32 := 0#32
  ![v282.toNat, 0]
def k0_dev20 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond10 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c4_i32_220 : BitVec 32 := 4#32
  let v287 : BitVec 1 := Scalar.cmpi .ne v21 c4_i32_220
  let v288 : BitVec 32 := Scalar.extui v287
  let c0_i32_223 : BitVec 32 := 0#32
  let v289 : BitVec 1 := Scalar.cmpi .ne v288 c0_i32_223
  v289

def k0_off12 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_219 : BitVec 32 := 128#32
  let v286 : BitVec 32 := Scalar.addi v44 c128_i32_219
  let c0_i32_736 : BitVec 32 := 0#32
  ![v286.toNat, 0]
def k0_dev21 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond11 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c5_i32_239 : BitVec 32 := 5#32
  let v310 : BitVec 1 := Scalar.cmpi .ne v20 c5_i32_239
  let v311 : BitVec 32 := Scalar.extui v310
  let c0_i32_242 : BitVec 32 := 0#32
  let v312 : BitVec 1 := Scalar.cmpi .ne v311 c0_i32_242
  v312

def k0_off13 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_238 : BitVec 32 := 160#32
  let v309 : BitVec 32 := Scalar.addi v44 c160_i32_238
  let c0_i32_736 : BitVec 32 := 0#32
  ![v309.toNat, 0]
def k0_dev22 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond12 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c5_i32_244 : BitVec 32 := 5#32
  let v314 : BitVec 1 := Scalar.cmpi .ne v21 c5_i32_244
  let v315 : BitVec 32 := Scalar.extui v314
  let c0_i32_247 : BitVec 32 := 0#32
  let v316 : BitVec 1 := Scalar.cmpi .ne v315 c0_i32_247
  v316

def k0_off14 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_243 : BitVec 32 := 160#32
  let v313 : BitVec 32 := Scalar.addi v44 c160_i32_243
  let c0_i32_736 : BitVec 32 := 0#32
  ![v313.toNat, 0]
def k0_dev23 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond13 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c6_i32_263 : BitVec 32 := 6#32
  let v337 : BitVec 1 := Scalar.cmpi .ne v20 c6_i32_263
  let v338 : BitVec 32 := Scalar.extui v337
  let c0_i32_266 : BitVec 32 := 0#32
  let v339 : BitVec 1 := Scalar.cmpi .ne v338 c0_i32_266
  v339

def k0_off15 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_262 : BitVec 32 := 192#32
  let v336 : BitVec 32 := Scalar.addi v44 c192_i32_262
  let c0_i32_736 : BitVec 32 := 0#32
  ![v336.toNat, 0]
def k0_dev24 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond14 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c6_i32_268 : BitVec 32 := 6#32
  let v341 : BitVec 1 := Scalar.cmpi .ne v21 c6_i32_268
  let v342 : BitVec 32 := Scalar.extui v341
  let c0_i32_271 : BitVec 32 := 0#32
  let v343 : BitVec 1 := Scalar.cmpi .ne v342 c0_i32_271
  v343

def k0_off16 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_267 : BitVec 32 := 192#32
  let v340 : BitVec 32 := Scalar.addi v44 c192_i32_267
  let c0_i32_736 : BitVec 32 := 0#32
  ![v340.toNat, 0]
def k0_dev25 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond15 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c7_i32_287 : BitVec 32 := 7#32
  let v364 : BitVec 1 := Scalar.cmpi .ne v20 c7_i32_287
  let v365 : BitVec 32 := Scalar.extui v364
  let c0_i32_290 : BitVec 32 := 0#32
  let v366 : BitVec 1 := Scalar.cmpi .ne v365 c0_i32_290
  v366

def k0_off17 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_286 : BitVec 32 := 224#32
  let v363 : BitVec 32 := Scalar.addi v44 c224_i32_286
  let c0_i32_736 : BitVec 32 := 0#32
  ![v363.toNat, 0]
def k0_dev26 (d0 : Dev nD) : Nat :=
  let c0_i32_733 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_732 : BitVec 32 := 4#32
  let v791 : BitVec 32 := Scalar.muli v18 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond16 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c7_i32_292 : BitVec 32 := 7#32
  let v368 : BitVec 1 := Scalar.cmpi .ne v21 c7_i32_292
  let v369 : BitVec 32 := Scalar.extui v368
  let c0_i32_295 : BitVec 32 := 0#32
  let v370 : BitVec 1 := Scalar.cmpi .ne v369 c0_i32_295
  v370

def k0_off18 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_291 : BitVec 32 := 224#32
  let v367 : BitVec 32 := Scalar.addi v44 c224_i32_291
  let c0_i32_736 : BitVec 32 := 0#32
  ![v367.toNat, 0]
def k0_dev27 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_734 : BitVec 32 := 2#32
  let v793 : BitVec 32 := Scalar.muli v19 c2_i32_734
  let v794 : BitVec 32 := Scalar.addi v792 v793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v795 : BitVec 32 := Scalar.muli v8 c1_i32_735
  let v796 : BitVec 32 := Scalar.addi v794 v795
  v796.toNat
def k0_cond17 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c0_i32_296 : BitVec 32 := 0#32
  let v371 : BitVec 1 := Scalar.cmpi .ne v20 c0_i32_296
  let v372 : BitVec 32 := Scalar.extui v371
  let c0_i32_299 : BitVec 32 := 0#32
  let v373 : BitVec 1 := Scalar.cmpi .ne v372 c0_i32_299
  v373

def k0_off19 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_118 : BitVec 32 := 0#32
  let v174 : BitVec 32 := Scalar.addi v44 c0_i32_118
  let c0_i32_736 : BitVec 32 := 0#32
  ![v174.toNat, 0]
def k0_cond18 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c0_i32_300 : BitVec 32 := 0#32
  let v374 : BitVec 1 := Scalar.cmpi .eq v23 c0_i32_300
  let v375 : BitVec 32 := Scalar.extui v374
  let c0_i32_302 : BitVec 32 := 0#32
  let v376 : BitVec 1 := Scalar.cmpi .ne v375 c0_i32_302
  v376

def k0_off20 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev28 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond19 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c0_i32_303 : BitVec 32 := 0#32
  let v377 : BitVec 1 := Scalar.cmpi .ne v21 c0_i32_303
  let v378 : BitVec 32 := Scalar.extui v377
  let c0_i32_306 : BitVec 32 := 0#32
  let v379 : BitVec 1 := Scalar.cmpi .ne v378 c0_i32_306
  v379

def k0_off21 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_123 : BitVec 32 := 0#32
  let v178 : BitVec 32 := Scalar.addi v44 c0_i32_123
  let c0_i32_736 : BitVec 32 := 0#32
  ![v178.toNat, 0]
def k0_cond20 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c0_i32_307 : BitVec 32 := 0#32
  let v380 : BitVec 1 := Scalar.cmpi .eq v24 c0_i32_307
  let v381 : BitVec 32 := Scalar.extui v380
  let c0_i32_309 : BitVec 32 := 0#32
  let v382 : BitVec 1 := Scalar.cmpi .ne v381 c0_i32_309
  v382

def k0_off22 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev29 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_off23 (d0 : Dev nD) (c0_i32_310 : BitVec 32) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let v383 : BitVec 32 := Scalar.addi v46 c0_i32_310
  let c0_i32_316 : BitVec 32 := 0#32
  ![v383.toNat, 0]
def k0_dev30 (d0 : Dev nD) : Nat :=
  let c0_i32_313 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_312 : BitVec 32 := 4#32
  let v384 : BitVec 32 := Scalar.muli v18 c4_i32_312
  let v385 : BitVec 32 := Scalar.addi c0_i32_313 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v386 : BitVec 32 := Scalar.muli v5 c2_i32_314
  let v387 : BitVec 32 := Scalar.addi v385 v386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v388 : BitVec 32 := Scalar.muli v8 c1_i32_315
  let v389 : BitVec 32 := Scalar.addi v387 v388
  v389.toNat
def k0_cond21 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c1_i32_318 : BitVec 32 := 1#32
  let v396 : BitVec 1 := Scalar.cmpi .ne v20 c1_i32_318
  let v397 : BitVec 32 := Scalar.extui v396
  let c0_i32_321 : BitVec 32 := 0#32
  let v398 : BitVec 1 := Scalar.cmpi .ne v397 c0_i32_321
  v398

def k0_off24 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_142 : BitVec 32 := 32#32
  let v201 : BitVec 32 := Scalar.addi v44 c32_i32_142
  let c0_i32_736 : BitVec 32 := 0#32
  ![v201.toNat, 0]
def k0_cond22 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c1_i32_322 : BitVec 32 := 1#32
  let v399 : BitVec 1 := Scalar.cmpi .eq v23 c1_i32_322
  let v400 : BitVec 32 := Scalar.extui v399
  let c0_i32_325 : BitVec 32 := 0#32
  let v401 : BitVec 1 := Scalar.cmpi .ne v400 c0_i32_325
  v401

def k0_off25 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev31 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond23 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c1_i32_326 : BitVec 32 := 1#32
  let v402 : BitVec 1 := Scalar.cmpi .ne v21 c1_i32_326
  let v403 : BitVec 32 := Scalar.extui v402
  let c0_i32_329 : BitVec 32 := 0#32
  let v404 : BitVec 1 := Scalar.cmpi .ne v403 c0_i32_329
  v404

def k0_off26 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_147 : BitVec 32 := 32#32
  let v205 : BitVec 32 := Scalar.addi v44 c32_i32_147
  let c0_i32_736 : BitVec 32 := 0#32
  ![v205.toNat, 0]
def k0_cond24 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c1_i32_330 : BitVec 32 := 1#32
  let v405 : BitVec 1 := Scalar.cmpi .eq v24 c1_i32_330
  let v406 : BitVec 32 := Scalar.extui v405
  let c0_i32_333 : BitVec 32 := 0#32
  let v407 : BitVec 1 := Scalar.cmpi .ne v406 c0_i32_333
  v407

def k0_off27 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev32 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev33 (d0 : Dev nD) : Nat :=
  let c0_i32_337 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_336 : BitVec 32 := 4#32
  let v409 : BitVec 32 := Scalar.muli v18 c4_i32_336
  let v410 : BitVec 32 := Scalar.addi c0_i32_337 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v411 : BitVec 32 := Scalar.muli v5 c2_i32_338
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v413 : BitVec 32 := Scalar.muli v8 c1_i32_339
  let v414 : BitVec 32 := Scalar.addi v412 v413
  v414.toNat
def k0_cond25 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c2_i32_342 : BitVec 32 := 2#32
  let v421 : BitVec 1 := Scalar.cmpi .ne v20 c2_i32_342
  let v422 : BitVec 32 := Scalar.extui v421
  let c0_i32_345 : BitVec 32 := 0#32
  let v423 : BitVec 1 := Scalar.cmpi .ne v422 c0_i32_345
  v423

def k0_off28 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_166 : BitVec 32 := 64#32
  let v228 : BitVec 32 := Scalar.addi v44 c64_i32_166
  let c0_i32_736 : BitVec 32 := 0#32
  ![v228.toNat, 0]
def k0_cond26 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c2_i32_346 : BitVec 32 := 2#32
  let v424 : BitVec 1 := Scalar.cmpi .eq v23 c2_i32_346
  let v425 : BitVec 32 := Scalar.extui v424
  let c0_i32_349 : BitVec 32 := 0#32
  let v426 : BitVec 1 := Scalar.cmpi .ne v425 c0_i32_349
  v426

def k0_off29 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev34 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond27 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c2_i32_350 : BitVec 32 := 2#32
  let v427 : BitVec 1 := Scalar.cmpi .ne v21 c2_i32_350
  let v428 : BitVec 32 := Scalar.extui v427
  let c0_i32_353 : BitVec 32 := 0#32
  let v429 : BitVec 1 := Scalar.cmpi .ne v428 c0_i32_353
  v429

def k0_off30 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_171 : BitVec 32 := 64#32
  let v232 : BitVec 32 := Scalar.addi v44 c64_i32_171
  let c0_i32_736 : BitVec 32 := 0#32
  ![v232.toNat, 0]
def k0_cond28 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c2_i32_354 : BitVec 32 := 2#32
  let v430 : BitVec 1 := Scalar.cmpi .eq v24 c2_i32_354
  let v431 : BitVec 32 := Scalar.extui v430
  let c0_i32_357 : BitVec 32 := 0#32
  let v432 : BitVec 1 := Scalar.cmpi .ne v431 c0_i32_357
  v432

def k0_off31 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev35 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev36 (d0 : Dev nD) : Nat :=
  let c0_i32_361 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_360 : BitVec 32 := 4#32
  let v434 : BitVec 32 := Scalar.muli v18 c4_i32_360
  let v435 : BitVec 32 := Scalar.addi c0_i32_361 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_362 : BitVec 32 := 2#32
  let v436 : BitVec 32 := Scalar.muli v5 c2_i32_362
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v438 : BitVec 32 := Scalar.muli v8 c1_i32_363
  let v439 : BitVec 32 := Scalar.addi v437 v438
  v439.toNat
def k0_cond29 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c3_i32_366 : BitVec 32 := 3#32
  let v446 : BitVec 1 := Scalar.cmpi .ne v20 c3_i32_366
  let v447 : BitVec 32 := Scalar.extui v446
  let c0_i32_369 : BitVec 32 := 0#32
  let v448 : BitVec 1 := Scalar.cmpi .ne v447 c0_i32_369
  v448

def k0_off32 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_190 : BitVec 32 := 96#32
  let v255 : BitVec 32 := Scalar.addi v44 c96_i32_190
  let c0_i32_736 : BitVec 32 := 0#32
  ![v255.toNat, 0]
def k0_cond30 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c3_i32_370 : BitVec 32 := 3#32
  let v449 : BitVec 1 := Scalar.cmpi .eq v23 c3_i32_370
  let v450 : BitVec 32 := Scalar.extui v449
  let c0_i32_373 : BitVec 32 := 0#32
  let v451 : BitVec 1 := Scalar.cmpi .ne v450 c0_i32_373
  v451

def k0_off33 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev37 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond31 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c3_i32_374 : BitVec 32 := 3#32
  let v452 : BitVec 1 := Scalar.cmpi .ne v21 c3_i32_374
  let v453 : BitVec 32 := Scalar.extui v452
  let c0_i32_377 : BitVec 32 := 0#32
  let v454 : BitVec 1 := Scalar.cmpi .ne v453 c0_i32_377
  v454

def k0_off34 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_195 : BitVec 32 := 96#32
  let v259 : BitVec 32 := Scalar.addi v44 c96_i32_195
  let c0_i32_736 : BitVec 32 := 0#32
  ![v259.toNat, 0]
def k0_cond32 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c3_i32_378 : BitVec 32 := 3#32
  let v455 : BitVec 1 := Scalar.cmpi .eq v24 c3_i32_378
  let v456 : BitVec 32 := Scalar.extui v455
  let c0_i32_381 : BitVec 32 := 0#32
  let v457 : BitVec 1 := Scalar.cmpi .ne v456 c0_i32_381
  v457

def k0_off35 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev38 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev39 (d0 : Dev nD) : Nat :=
  let c0_i32_385 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_384 : BitVec 32 := 4#32
  let v459 : BitVec 32 := Scalar.muli v18 c4_i32_384
  let v460 : BitVec 32 := Scalar.addi c0_i32_385 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v461 : BitVec 32 := Scalar.muli v5 c2_i32_386
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v463 : BitVec 32 := Scalar.muli v8 c1_i32_387
  let v464 : BitVec 32 := Scalar.addi v462 v463
  v464.toNat
def k0_cond33 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c4_i32_390 : BitVec 32 := 4#32
  let v471 : BitVec 1 := Scalar.cmpi .ne v20 c4_i32_390
  let v472 : BitVec 32 := Scalar.extui v471
  let c0_i32_393 : BitVec 32 := 0#32
  let v473 : BitVec 1 := Scalar.cmpi .ne v472 c0_i32_393
  v473

def k0_off36 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_214 : BitVec 32 := 128#32
  let v282 : BitVec 32 := Scalar.addi v44 c128_i32_214
  let c0_i32_736 : BitVec 32 := 0#32
  ![v282.toNat, 0]
def k0_cond34 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c4_i32_394 : BitVec 32 := 4#32
  let v474 : BitVec 1 := Scalar.cmpi .eq v23 c4_i32_394
  let v475 : BitVec 32 := Scalar.extui v474
  let c0_i32_397 : BitVec 32 := 0#32
  let v476 : BitVec 1 := Scalar.cmpi .ne v475 c0_i32_397
  v476

def k0_off37 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev40 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond35 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c4_i32_398 : BitVec 32 := 4#32
  let v477 : BitVec 1 := Scalar.cmpi .ne v21 c4_i32_398
  let v478 : BitVec 32 := Scalar.extui v477
  let c0_i32_401 : BitVec 32 := 0#32
  let v479 : BitVec 1 := Scalar.cmpi .ne v478 c0_i32_401
  v479

def k0_off38 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_219 : BitVec 32 := 128#32
  let v286 : BitVec 32 := Scalar.addi v44 c128_i32_219
  let c0_i32_736 : BitVec 32 := 0#32
  ![v286.toNat, 0]
def k0_cond36 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c4_i32_402 : BitVec 32 := 4#32
  let v480 : BitVec 1 := Scalar.cmpi .eq v24 c4_i32_402
  let v481 : BitVec 32 := Scalar.extui v480
  let c0_i32_405 : BitVec 32 := 0#32
  let v482 : BitVec 1 := Scalar.cmpi .ne v481 c0_i32_405
  v482

def k0_off39 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev41 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_off40 (d0 : Dev nD) (c128_i32_406 : BitVec 32) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let v483 : BitVec 32 := Scalar.addi v45 c128_i32_406
  let c0_i32_413 : BitVec 32 := 0#32
  ![v483.toNat, 0]
def k0_dev42 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v484 : BitVec 32 := Scalar.muli v2 c4_i32_409
  let v485 : BitVec 32 := Scalar.addi c0_i32_410 v484
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_411 : BitVec 32 := 2#32
  let v486 : BitVec 32 := Scalar.muli v19 c2_i32_411
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_412 : BitVec 32 := 1#32
  let v488 : BitVec 32 := Scalar.muli v8 c1_i32_412
  let v489 : BitVec 32 := Scalar.addi v487 v488
  v489.toNat
def k0_cond37 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c5_i32_415 : BitVec 32 := 5#32
  let v496 : BitVec 1 := Scalar.cmpi .ne v20 c5_i32_415
  let v497 : BitVec 32 := Scalar.extui v496
  let c0_i32_418 : BitVec 32 := 0#32
  let v498 : BitVec 1 := Scalar.cmpi .ne v497 c0_i32_418
  v498

def k0_off41 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_238 : BitVec 32 := 160#32
  let v309 : BitVec 32 := Scalar.addi v44 c160_i32_238
  let c0_i32_736 : BitVec 32 := 0#32
  ![v309.toNat, 0]
def k0_cond38 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c5_i32_419 : BitVec 32 := 5#32
  let v499 : BitVec 1 := Scalar.cmpi .eq v23 c5_i32_419
  let v500 : BitVec 32 := Scalar.extui v499
  let c0_i32_422 : BitVec 32 := 0#32
  let v501 : BitVec 1 := Scalar.cmpi .ne v500 c0_i32_422
  v501

def k0_off42 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev43 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond39 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c5_i32_423 : BitVec 32 := 5#32
  let v502 : BitVec 1 := Scalar.cmpi .ne v21 c5_i32_423
  let v503 : BitVec 32 := Scalar.extui v502
  let c0_i32_426 : BitVec 32 := 0#32
  let v504 : BitVec 1 := Scalar.cmpi .ne v503 c0_i32_426
  v504

def k0_off43 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_243 : BitVec 32 := 160#32
  let v313 : BitVec 32 := Scalar.addi v44 c160_i32_243
  let c0_i32_736 : BitVec 32 := 0#32
  ![v313.toNat, 0]
def k0_cond40 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c5_i32_427 : BitVec 32 := 5#32
  let v505 : BitVec 1 := Scalar.cmpi .eq v24 c5_i32_427
  let v506 : BitVec 32 := Scalar.extui v505
  let c0_i32_430 : BitVec 32 := 0#32
  let v507 : BitVec 1 := Scalar.cmpi .ne v506 c0_i32_430
  v507

def k0_off44 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev44 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev45 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_434 : BitVec 32 := 4#32
  let v509 : BitVec 32 := Scalar.muli v2 c4_i32_434
  let v510 : BitVec 32 := Scalar.addi c0_i32_435 v509
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_436 : BitVec 32 := 2#32
  let v511 : BitVec 32 := Scalar.muli v19 c2_i32_436
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v513 : BitVec 32 := Scalar.muli v8 c1_i32_437
  let v514 : BitVec 32 := Scalar.addi v512 v513
  v514.toNat
def k0_cond41 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c6_i32_440 : BitVec 32 := 6#32
  let v521 : BitVec 1 := Scalar.cmpi .ne v20 c6_i32_440
  let v522 : BitVec 32 := Scalar.extui v521
  let c0_i32_443 : BitVec 32 := 0#32
  let v523 : BitVec 1 := Scalar.cmpi .ne v522 c0_i32_443
  v523

def k0_off45 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_262 : BitVec 32 := 192#32
  let v336 : BitVec 32 := Scalar.addi v44 c192_i32_262
  let c0_i32_736 : BitVec 32 := 0#32
  ![v336.toNat, 0]
def k0_cond42 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c6_i32_444 : BitVec 32 := 6#32
  let v524 : BitVec 1 := Scalar.cmpi .eq v23 c6_i32_444
  let v525 : BitVec 32 := Scalar.extui v524
  let c0_i32_447 : BitVec 32 := 0#32
  let v526 : BitVec 1 := Scalar.cmpi .ne v525 c0_i32_447
  v526

def k0_off46 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev46 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond43 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c6_i32_448 : BitVec 32 := 6#32
  let v527 : BitVec 1 := Scalar.cmpi .ne v21 c6_i32_448
  let v528 : BitVec 32 := Scalar.extui v527
  let c0_i32_451 : BitVec 32 := 0#32
  let v529 : BitVec 1 := Scalar.cmpi .ne v528 c0_i32_451
  v529

def k0_off47 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_267 : BitVec 32 := 192#32
  let v340 : BitVec 32 := Scalar.addi v44 c192_i32_267
  let c0_i32_736 : BitVec 32 := 0#32
  ![v340.toNat, 0]
def k0_cond44 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c6_i32_452 : BitVec 32 := 6#32
  let v530 : BitVec 1 := Scalar.cmpi .eq v24 c6_i32_452
  let v531 : BitVec 32 := Scalar.extui v530
  let c0_i32_455 : BitVec 32 := 0#32
  let v532 : BitVec 1 := Scalar.cmpi .ne v531 c0_i32_455
  v532

def k0_off48 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev47 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev48 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_459 : BitVec 32 := 4#32
  let v534 : BitVec 32 := Scalar.muli v2 c4_i32_459
  let v535 : BitVec 32 := Scalar.addi c0_i32_460 v534
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_461 : BitVec 32 := 2#32
  let v536 : BitVec 32 := Scalar.muli v19 c2_i32_461
  let v537 : BitVec 32 := Scalar.addi v535 v536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_462 : BitVec 32 := 1#32
  let v538 : BitVec 32 := Scalar.muli v8 c1_i32_462
  let v539 : BitVec 32 := Scalar.addi v537 v538
  v539.toNat
def k0_cond45 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c7_i32_465 : BitVec 32 := 7#32
  let v546 : BitVec 1 := Scalar.cmpi .ne v20 c7_i32_465
  let v547 : BitVec 32 := Scalar.extui v546
  let c0_i32_468 : BitVec 32 := 0#32
  let v548 : BitVec 1 := Scalar.cmpi .ne v547 c0_i32_468
  v548

def k0_off49 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_286 : BitVec 32 := 224#32
  let v363 : BitVec 32 := Scalar.addi v44 c224_i32_286
  let c0_i32_736 : BitVec 32 := 0#32
  ![v363.toNat, 0]
def k0_cond46 (d0 : Dev nD) : BitVec 1 :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c7_i32_469 : BitVec 32 := 7#32
  let v549 : BitVec 1 := Scalar.cmpi .eq v23 c7_i32_469
  let v550 : BitVec 32 := Scalar.extui v549
  let c0_i32_472 : BitVec 32 := 0#32
  let v551 : BitVec 1 := Scalar.cmpi .ne v550 c0_i32_472
  v551

def k0_off50 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_736 : BitVec 32 := 0#32
  ![v152.toNat, 0]
def k0_dev49 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_cond47 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c7_i32_473 : BitVec 32 := 7#32
  let v552 : BitVec 1 := Scalar.cmpi .ne v21 c7_i32_473
  let v553 : BitVec 32 := Scalar.extui v552
  let c0_i32_476 : BitVec 32 := 0#32
  let v554 : BitVec 1 := Scalar.cmpi .ne v553 c0_i32_476
  v554

def k0_off51 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_291 : BitVec 32 := 224#32
  let v367 : BitVec 32 := Scalar.addi v44 c224_i32_291
  let c0_i32_736 : BitVec 32 := 0#32
  ![v367.toNat, 0]
def k0_cond48 (d0 : Dev nD) : BitVec 1 :=
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c7_i32_477 : BitVec 32 := 7#32
  let v555 : BitVec 1 := Scalar.cmpi .eq v24 c7_i32_477
  let v556 : BitVec 32 := Scalar.extui v555
  let c0_i32_480 : BitVec 32 := 0#32
  let v557 : BitVec 1 := Scalar.cmpi .ne v556 c0_i32_480
  v557

def k0_off52 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_736 : BitVec 32 := 0#32
  ![v154.toNat, 0]
def k0_dev50 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v791 : BitVec 32 := Scalar.muli v2 c4_i32_732
  let v792 : BitVec 32 := Scalar.addi c0_i32_733 v791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v793 : BitVec 32 := Scalar.muli v5 c2_i32_734
  let v794 : BitVec 32 := Scalar.addi v792 v793
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_735 : BitVec 32 := 1#32
  let v795 : BitVec 32 := Scalar.muli v17 c1_i32_735
  let v796 : BitVec 32 := Scalar.addi v794 v795
  v796.toNat
def k0_dev51 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v559 : BitVec 32 := Scalar.muli v2 c4_i32_484
  let v560 : BitVec 32 := Scalar.addi c0_i32_485 v559
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_486 : BitVec 32 := 2#32
  let v561 : BitVec 32 := Scalar.muli v19 c2_i32_486
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v563 : BitVec 32 := Scalar.muli v8 c1_i32_487
  let v564 : BitVec 32 := Scalar.addi v562 v563
  v564.toNat
def k0_off53 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_29 : BitVec 32 := 256#32
  let v45 : BitVec 32 := Scalar.muli v13 c256_i32_29
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.muli c2_i32_14 v22
  let c32_i32_102 : BitVec 32 := 32#32
  let v151 : BitVec 32 := Scalar.muli v23 c32_i32_102
  let v152 : BitVec 32 := Scalar.addi v45 v151
  let c0_i32_496 : BitVec 32 := 0#32
  ![v152.toNat, 0]
def k0_off54 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_30 : BitVec 32 := 256#32
  let v46 : BitVec 32 := Scalar.muli v16 c256_i32_30
  let c5_i32 : BitVec 32 := 5#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c5_i32 v8
  let c32_i32_103 : BitVec 32 := 32#32
  let v153 : BitVec 32 := Scalar.muli v24 c32_i32_103
  let v154 : BitVec 32 := Scalar.addi v46 v153
  let c0_i32_504 : BitVec 32 := 0#32
  ![v154.toNat, 0]
def k0_cond49 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c0_i32_668 : BitVec 32 := 0#32
  let v743 : BitVec 1 := Scalar.cmpi .ne v20 c0_i32_668
  let v744 : BitVec 32 := Scalar.extui v743
  let c0_i32_671 : BitVec 32 := 0#32
  let v745 : BitVec 1 := Scalar.cmpi .ne v744 c0_i32_671
  v745

def k0_off55 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_118 : BitVec 32 := 0#32
  let v174 : BitVec 32 := Scalar.addi v44 c0_i32_118
  let c0_i32_733 : BitVec 32 := 0#32
  ![v174.toNat, 0]
def k0_cond50 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c0_i32_672 : BitVec 32 := 0#32
  let v746 : BitVec 1 := Scalar.cmpi .ne v21 c0_i32_672
  let v747 : BitVec 32 := Scalar.extui v746
  let c0_i32_675 : BitVec 32 := 0#32
  let v748 : BitVec 1 := Scalar.cmpi .ne v747 c0_i32_675
  v748

def k0_off56 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c0_i32_123 : BitVec 32 := 0#32
  let v178 : BitVec 32 := Scalar.addi v44 c0_i32_123
  let c0_i32_733 : BitVec 32 := 0#32
  ![v178.toNat, 0]
def k0_cond51 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c1_i32_676 : BitVec 32 := 1#32
  let v749 : BitVec 1 := Scalar.cmpi .ne v20 c1_i32_676
  let v750 : BitVec 32 := Scalar.extui v749
  let c0_i32_679 : BitVec 32 := 0#32
  let v751 : BitVec 1 := Scalar.cmpi .ne v750 c0_i32_679
  v751

def k0_off57 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_142 : BitVec 32 := 32#32
  let v201 : BitVec 32 := Scalar.addi v44 c32_i32_142
  let c0_i32_733 : BitVec 32 := 0#32
  ![v201.toNat, 0]
def k0_cond52 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c1_i32_680 : BitVec 32 := 1#32
  let v752 : BitVec 1 := Scalar.cmpi .ne v21 c1_i32_680
  let v753 : BitVec 32 := Scalar.extui v752
  let c0_i32_683 : BitVec 32 := 0#32
  let v754 : BitVec 1 := Scalar.cmpi .ne v753 c0_i32_683
  v754

def k0_off58 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c32_i32_147 : BitVec 32 := 32#32
  let v205 : BitVec 32 := Scalar.addi v44 c32_i32_147
  let c0_i32_733 : BitVec 32 := 0#32
  ![v205.toNat, 0]
def k0_cond53 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c2_i32_684 : BitVec 32 := 2#32
  let v755 : BitVec 1 := Scalar.cmpi .ne v20 c2_i32_684
  let v756 : BitVec 32 := Scalar.extui v755
  let c0_i32_687 : BitVec 32 := 0#32
  let v757 : BitVec 1 := Scalar.cmpi .ne v756 c0_i32_687
  v757

def k0_off59 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_166 : BitVec 32 := 64#32
  let v228 : BitVec 32 := Scalar.addi v44 c64_i32_166
  let c0_i32_733 : BitVec 32 := 0#32
  ![v228.toNat, 0]
def k0_cond54 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c2_i32_688 : BitVec 32 := 2#32
  let v758 : BitVec 1 := Scalar.cmpi .ne v21 c2_i32_688
  let v759 : BitVec 32 := Scalar.extui v758
  let c0_i32_691 : BitVec 32 := 0#32
  let v760 : BitVec 1 := Scalar.cmpi .ne v759 c0_i32_691
  v760

def k0_off60 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c64_i32_171 : BitVec 32 := 64#32
  let v232 : BitVec 32 := Scalar.addi v44 c64_i32_171
  let c0_i32_733 : BitVec 32 := 0#32
  ![v232.toNat, 0]
def k0_cond55 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c3_i32_692 : BitVec 32 := 3#32
  let v761 : BitVec 1 := Scalar.cmpi .ne v20 c3_i32_692
  let v762 : BitVec 32 := Scalar.extui v761
  let c0_i32_695 : BitVec 32 := 0#32
  let v763 : BitVec 1 := Scalar.cmpi .ne v762 c0_i32_695
  v763

def k0_off61 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_190 : BitVec 32 := 96#32
  let v255 : BitVec 32 := Scalar.addi v44 c96_i32_190
  let c0_i32_733 : BitVec 32 := 0#32
  ![v255.toNat, 0]
def k0_cond56 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c3_i32_696 : BitVec 32 := 3#32
  let v764 : BitVec 1 := Scalar.cmpi .ne v21 c3_i32_696
  let v765 : BitVec 32 := Scalar.extui v764
  let c0_i32_699 : BitVec 32 := 0#32
  let v766 : BitVec 1 := Scalar.cmpi .ne v765 c0_i32_699
  v766

def k0_off62 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c96_i32_195 : BitVec 32 := 96#32
  let v259 : BitVec 32 := Scalar.addi v44 c96_i32_195
  let c0_i32_733 : BitVec 32 := 0#32
  ![v259.toNat, 0]
def k0_cond57 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c4_i32_700 : BitVec 32 := 4#32
  let v767 : BitVec 1 := Scalar.cmpi .ne v20 c4_i32_700
  let v768 : BitVec 32 := Scalar.extui v767
  let c0_i32_703 : BitVec 32 := 0#32
  let v769 : BitVec 1 := Scalar.cmpi .ne v768 c0_i32_703
  v769

def k0_off63 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_214 : BitVec 32 := 128#32
  let v282 : BitVec 32 := Scalar.addi v44 c128_i32_214
  let c0_i32_733 : BitVec 32 := 0#32
  ![v282.toNat, 0]
def k0_cond58 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c4_i32_704 : BitVec 32 := 4#32
  let v770 : BitVec 1 := Scalar.cmpi .ne v21 c4_i32_704
  let v771 : BitVec 32 := Scalar.extui v770
  let c0_i32_707 : BitVec 32 := 0#32
  let v772 : BitVec 1 := Scalar.cmpi .ne v771 c0_i32_707
  v772

def k0_off64 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c128_i32_219 : BitVec 32 := 128#32
  let v286 : BitVec 32 := Scalar.addi v44 c128_i32_219
  let c0_i32_733 : BitVec 32 := 0#32
  ![v286.toNat, 0]
def k0_cond59 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c5_i32_708 : BitVec 32 := 5#32
  let v773 : BitVec 1 := Scalar.cmpi .ne v20 c5_i32_708
  let v774 : BitVec 32 := Scalar.extui v773
  let c0_i32_711 : BitVec 32 := 0#32
  let v775 : BitVec 1 := Scalar.cmpi .ne v774 c0_i32_711
  v775

def k0_off65 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_238 : BitVec 32 := 160#32
  let v309 : BitVec 32 := Scalar.addi v44 c160_i32_238
  let c0_i32_733 : BitVec 32 := 0#32
  ![v309.toNat, 0]
def k0_cond60 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c5_i32_712 : BitVec 32 := 5#32
  let v776 : BitVec 1 := Scalar.cmpi .ne v21 c5_i32_712
  let v777 : BitVec 32 := Scalar.extui v776
  let c0_i32_715 : BitVec 32 := 0#32
  let v778 : BitVec 1 := Scalar.cmpi .ne v777 c0_i32_715
  v778

def k0_off66 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c160_i32_243 : BitVec 32 := 160#32
  let v313 : BitVec 32 := Scalar.addi v44 c160_i32_243
  let c0_i32_733 : BitVec 32 := 0#32
  ![v313.toNat, 0]
def k0_cond61 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c6_i32_716 : BitVec 32 := 6#32
  let v779 : BitVec 1 := Scalar.cmpi .ne v20 c6_i32_716
  let v780 : BitVec 32 := Scalar.extui v779
  let c0_i32_719 : BitVec 32 := 0#32
  let v781 : BitVec 1 := Scalar.cmpi .ne v780 c0_i32_719
  v781

def k0_off67 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_262 : BitVec 32 := 192#32
  let v336 : BitVec 32 := Scalar.addi v44 c192_i32_262
  let c0_i32_733 : BitVec 32 := 0#32
  ![v336.toNat, 0]
def k0_cond62 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c6_i32_720 : BitVec 32 := 6#32
  let v782 : BitVec 1 := Scalar.cmpi .ne v21 c6_i32_720
  let v783 : BitVec 32 := Scalar.extui v782
  let c0_i32_723 : BitVec 32 := 0#32
  let v784 : BitVec 1 := Scalar.cmpi .ne v783 c0_i32_723
  v784

def k0_off68 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c192_i32_267 : BitVec 32 := 192#32
  let v340 : BitVec 32 := Scalar.addi v44 c192_i32_267
  let c0_i32_733 : BitVec 32 := 0#32
  ![v340.toNat, 0]
def k0_cond63 (d0 : Dev nD) : BitVec 1 :=
  let c2_i32_11 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.muli c2_i32_11 v8
  let c7_i32_724 : BitVec 32 := 7#32
  let v785 : BitVec 1 := Scalar.cmpi .ne v20 c7_i32_724
  let v786 : BitVec 32 := Scalar.extui v785
  let c0_i32_727 : BitVec 32 := 0#32
  let v787 : BitVec 1 := Scalar.cmpi .ne v786 c0_i32_727
  v787

def k0_off69 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_286 : BitVec 32 := 224#32
  let v363 : BitVec 32 := Scalar.addi v44 c224_i32_286
  let c0_i32_733 : BitVec 32 := 0#32
  ![v363.toNat, 0]
def k0_cond64 (d0 : Dev nD) : BitVec 1 :=
  let c4_i32_12 : BitVec 32 := 4#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi c4_i32_12 v8
  let c7_i32_728 : BitVec 32 := 7#32
  let v788 : BitVec 1 := Scalar.cmpi .ne v21 c7_i32_728
  let v789 : BitVec 32 := Scalar.extui v788
  let c0_i32_731 : BitVec 32 := 0#32
  let v790 : BitVec 1 := Scalar.cmpi .ne v789 c0_i32_731
  v790

def k0_off70 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v44 : BitVec 32 := Scalar.muli v10 c256_i32
  let c224_i32_291 : BitVec 32 := 224#32
  let v367 : BitVec 32 := Scalar.addi v44 c224_i32_291
  let c0_i32_733 : BitVec 32 := 0#32
  ![v367.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Plan.lean ====
/-
# The communication plan: which rows travel where, and when

The mesh is 2 × 2 × 2; a device's number is `4 x + 2 y + z`. The result's 1024 rows are cut into 32 chunks of 32 rows,
eight chunks to a quarter. A device adds the eight chunks of its own quarter (quarter number `2 y + x`) and gets all
others from its neighbours.

A device starts up to 38 copies, named by a number `j`: 0–9 go to its neighbour along z, 10–23 along x, 24–37 along y.
This file says, for each device and each copy: whether it is made (`used`), the neighbour (`pr`), the rows read (`sr`),
the rows filled by the copy of the same name that arrives (`dr`), and the position in the kernel's sequence of steps at
which it is started (`tS`), its arrival is awaited (`tR`), and its end is awaited (`tV`). Everything is finite, so the facts
the proof needs are decided.
-/
module

public import Mathlib.Data.Fintype.Prod
public import Mathlib.Data.Fintype.Sum

@[expose] public section

namespace Cert.Plan

/-- The name of a copy. -/
abbrev J : Type := Fin 38
/-- A chunk of 32 rows: of the result buffer, of the argument buffer, or of the buffer the z neighbour's rows land in. -/
abbrev Reg : Type := Fin 32 ⊕ Fin 32 ⊕ Fin 8

/-- The coordinates of a device. -/
def mx (c : Fin 8) : ℕ := c.val / 4
def my (c : Fin 8) : ℕ := c.val / 2 % 2
def mz (c : Fin 8) : ℕ := c.val % 2
/-- The device at given coordinates. -/
def dv (x y z : ℕ) : Fin 8 := ⟨(4 * x + 2 * y + z) % 8, Nat.mod_lt _ (by decide)⟩

/-- The three neighbours. -/
def zp (c : Fin 8) : Fin 8 := dv (mx c) (my c) (1 - mz c)
def xp (c : Fin 8) : Fin 8 := dv (1 - mx c) (my c) (mz c)
def yp (c : Fin 8) : Fin 8 := dv (mx c) (1 - my c) (mz c)

/-- The axis of a copy: 0 is z, 1 is x, 2 is y. -/
def ax (j : J) : Fin 3 := if j.val < 10 then 0 else if j.val < 24 then 1 else 2
/-- The neighbour along an axis. -/
def nb (a : Fin 3) (c : Fin 8) : Fin 8 := if a.val = 0 then zp c else if a.val = 1 then xp c else yp c
/-- The neighbour a copy goes to (and the one of the same name comes from). -/
def pr (j : J) (c : Fin 8) : Fin 8 := nb (ax j) c
/-- The number of a copy on its axis. -/
def ix (j : J) : ℕ := if j.val < 10 then j.val else if j.val < 24 then j.val - 10 else j.val - 24

/-- Quarters: a device's own, the x neighbour's, the y neighbour's. -/
def qo (c : Fin 8) : ℕ := 2 * my c + mx c
def qx (c : Fin 8) : ℕ := 2 * my c + (1 - mx c)
def qy (c : Fin 8) : ℕ := 2 * (1 - my c) + mx c

/-- The chunk of the x (y) neighbour's quarter a device sends on along z, which its z neighbour does not get directly. -/
def fx (c : Fin 8) : ℕ := 2 * (1 - mz c)
def fy (c : Fin 8) : ℕ := 5 - mz c

def oR (n : ℕ) : Reg := .inl ⟨n % 32, Nat.mod_lt _ (by decide)⟩
def xR (n : ℕ) : Reg := .inr (.inl ⟨n % 32, Nat.mod_lt _ (by decide)⟩)
def zR (n : ℕ) : Reg := .inr (.inr ⟨n % 8, Nat.mod_lt _ (by decide)⟩)

/-- Chunk `k` of a device's own quarter of the result. -/
def own (c : Fin 8) (k : Fin 8) : Reg := oR (8 * qo c + k.val)
/-- The same chunk of the argument. -/
def ownX (c : Fin 8) (k : Fin 8) : Reg := xR (8 * qo c + k.val)

/-- Whether a copy is made. -/
def used (c : Fin 8) (j : J) : Bool :=
  if j.val < 10 then true
  else if j.val < 24 then ix j != 8 && ix j != 9 && ix j != 2 * mz c
  else ix j != 8 && ix j != 9 && ix j != 4 + mz c

/-- The chunk a copy reads. -/
def sr (c : Fin 8) (j : J) : Reg :=
  if j.val < 8 then xR (8 * qo c + j.val)
  else if j.val < 9 then oR (8 * qx c + fx c)
  else if j.val < 10 then oR (8 * qy c + fy c)
  else if ix j < 8 then oR (8 * qo c + ix j)
  else if j.val < 24 then oR (8 * qy c + (ix j - 10))
  else oR (8 * qx c + (ix j - 6))

/-- The chunk of device `c` the incoming copy `j` fills. -/
def dr (c : Fin 8) (j : J) : Reg := if j.val < 8 then zR j.val else sr (pr j c) j

/-- A chunk is held in two half shares; the half a copy borrows while it is in flight. -/
def side (j : J) : Bool := j.val < 24

/-- The step that starts a copy. -/
def tS (c : Fin 8) (j : J) : ℕ :=
  if j.val < 8 then j.val
  else if j.val < 9 then 41 + 5 * fx c
  else if j.val < 10 then 43 + 5 * fy c
  else if j.val < 24 then (if ix j < 8 then 10 + 4 * ix j else 44 + 5 * (ix j - 10))
  else (if ix j < 8 then 11 + 4 * ix j else 44 + 5 * (ix j - 6))

/-- The step that waits for a copy's arrival. -/
def tR (j : J) : ℕ :=
  if j.val < 8 then 8 + 4 * j.val
  else if j.val < 10 then 72 + j.val
  else if j.val < 24 then (if ix j < 8 then 40 + 5 * ix j else 72 + ix j)
  else (if ix j < 8 then 42 + 5 * ix j else 76 + ix j)

/-- The step that waits for the end of a copy the device started. -/
def tV (j : J) : ℕ :=
  if j.val < 10 then 90 + j.val
  else if j.val < 24 then (if ix j < 8 then 108 + 2 * ix j else 90 + ix j)
  else (if ix j < 8 then 109 + 2 * ix j else 94 + ix j)

/-- The step that adds chunk `k` of the own quarter. -/
def tA (k : Fin 8) : ℕ := 9 + 4 * k.val

/-- How far along the kernel a copy's arrival lies: a device waiting for one owes only copies of higher rank. -/
def rank (j : J) : ℕ :=
  if j.val < 8 then 2 else if j.val < 10 then 4 else if ix j < 8 then 3 else 4

/-- Before step `n` the chunk is in device `c`'s hands, with its final value. -/
def avail (c : Fin 8) (n : ℕ) (r : Reg) : Prop :=
  (∃ i, r = .inr (.inl i)) ∨ (∃ j, used c j = true ∧ dr c j = r ∧ tR j < n) ∨ (∃ k, own c k = r ∧ tA k < n)

/-- Before step `n` half `b` of the chunk is lent to a copy in flight. -/
def lent (c : Fin 8) (n : ℕ) (r : Reg) (b : Bool) : Prop :=
  ∃ j, used c j = true ∧ sr c j = r ∧ side j = b ∧ tS c j < n ∧ n ≤ tV j

instance (c : Fin 8) (n : ℕ) (r : Reg) : Decidable (avail c n r) := by unfold avail; infer_instance
instance (c : Fin 8) (n : ℕ) (r : Reg) (b : Bool) : Decidable (lent c n r b) := by unfold lent; infer_instance

/-- The device whose sum ends up in chunk `r` of device `c`'s result. -/
def org (c : Fin 8) (r : Fin 32) : Fin 8 :=
  dv (r.val / 8 % 2) (r.val / 16)
    (if r.val = 8 * qx c + 2 * mz c ∨ r.val = 8 * qy c + 4 + mz c then 1 - mz c else mz c)

/-- What a chunk finally holds: a sum (`true`) made on a device, or a device's argument rows. -/
def tag (c : Fin 8) : Reg → Bool × Fin 8 × Fin 32
  | .inl r => (true, org c r, r)
  | .inr (.inl r) => (false, c, r)
  | .inr (.inr k) => (false, zp c, ⟨(8 * qo c + k.val) % 32, Nat.mod_lt _ (by decide)⟩)

/-! ## Decided facts -/

theorem pr_pr : ∀ (j : J) (c : Fin 8), pr j (pr j c) = c := by decide +kernel
theorem nb_nb : ∀ (a : Fin 3) (c : Fin 8), nb a (nb a c) = c := by decide +kernel
theorem nb_ne : ∀ (a b : Fin 3) (c : Fin 8), nb a c = nb b c → a = b := by decide +kernel
theorem used_pr : ∀ (c : Fin 8) (j : J), used (pr j c) j = used c j := by decide +kernel
theorem tag_copy : ∀ (c : Fin 8) (j : J), used c j = true → tag (pr j c) (dr (pr j c) j) = tag c (sr c j) := by decide +kernel
theorem tag_own : ∀ (c : Fin 8) (k : Fin 8), tag c (own c k) = (true, c, ⟨(8 * qo c + k.val) % 32, Nat.mod_lt _ (by decide)⟩) := by decide +kernel

theorem sep_SS : ∀ (c : Fin 8) (i j : J), used c i = true → used c j = true → tS c i = tS c j → i = j := by decide +kernel
theorem sep_RR : ∀ (c : Fin 8) (i j : J), used c i = true → used c j = true → tR i = tR j → i = j := by decide +kernel
theorem sep_VV : ∀ (c : Fin 8) (i j : J), used c i = true → used c j = true → tV i = tV j → i = j := by decide +kernel
theorem sep_SR : ∀ (c : Fin 8) (i j : J), used c i = true → used c j = true → tS c i ≠ tR j := by decide +kernel
theorem sep_SV : ∀ (c : Fin 8) (i j : J), used c i = true → used c j = true → tS c i ≠ tV j := by decide +kernel
theorem sep_RV : ∀ (c : Fin 8) (i j : J), used c i = true → used c j = true → tR i ≠ tV j := by decide +kernel
theorem sep_SA : ∀ (c : Fin 8) (i : J) (k : Fin 8), used c i = true → tS c i ≠ tA k := by decide +kernel
theorem sep_RA : ∀ (c : Fin 8) (i : J) (k : Fin 8), used c i = true → tR i ≠ tA k := by decide +kernel
theorem sep_VA : ∀ (c : Fin 8) (i : J) (k : Fin 8), used c i = true → tV i ≠ tA k := by decide +kernel
theorem sep_AA : ∀ (i k : Fin 8), tA i = tA k → i = k := by decide +kernel

theorem sr_inj : ∀ (c : Fin 8) (i j : J), used c i = true → used c j = true → sr c i = sr c j → side i = side j → i = j := by decide +kernel
theorem dr_inj : ∀ (c : Fin 8) (i j : J), used c i = true → used c j = true → dr c i = dr c j → i = j := by decide +kernel
theorem own_inj : ∀ (c : Fin 8) (i j : Fin 8), own c i = own c j → i = j := by decide +kernel
theorem dr_ne_own : ∀ (c : Fin 8) (j : J) (k : Fin 8), used c j = true → own c k ≠ dr c j := by decide +kernel
theorem dr_ne_x : ∀ (c : Fin 8) (j : J) (i : Fin 32), used c j = true → dr c j ≠ .inr (.inl i) := by decide +kernel
theorem own_ne_x : ∀ (c : Fin 8) (k : Fin 8) (i : Fin 32), own c k ≠ .inr (.inl i) := by decide +kernel
theorem sr_avail : ∀ (c : Fin 8) (j : J), used c j = true → avail c (tS c j) (sr c j) := by decide +kernel
theorem start_lt : ∀ (c : Fin 8) (j : J), used c j = true → tS c j < tV j := by decide +kernel
theorem forward_late : ∀ (c : Fin 8) (i j : J), used c i = true → used c j = true → sr c i = dr c j → tR j < tS c i := by decide +kernel
theorem own_late : ∀ (c : Fin 8) (j : J) (k : Fin 8), used c j = true → sr c j = own c k → tA k < tS c j := by decide +kernel
theorem z_avail : ∀ (c k : Fin 8), avail c (tA k) (zR k.val) := by decide +kernel
theorem sr_ne_z : ∀ (c : Fin 8) (j : J) (k : Fin 8), sr c j ≠ .inr (.inr k) := by decide +kernel
theorem sr_x_side : ∀ (c : Fin 8) (j : J) (k : Fin 32), sr c j = .inr (.inl k) → side j = true := by decide +kernel
theorem rank_lt : ∀ (c : Fin 8) (i j : J), used c i = true → used c j = true → tR i ≤ tS c j → rank i < rank j := by decide +kernel
theorem end_late : ∀ (c : Fin 8) (i j : J), used c i = true → used c j = true → tS c j < tV i := by decide +kernel
theorem all_avail : ∀ (c : Fin 8) (r : Reg), avail c 124 r := by decide +kernel
theorem tV_lt : ∀ (j : J), used 0 j = true ∨ used 1 j = true → tV j < 124 := by decide +kernel
theorem used_or : ∀ (c : Fin 8) (j : J), used c j = true → used 0 j = true ∨ used 1 j = true := by decide +kernel
theorem tS_lt : ∀ (c : Fin 8) (j : J), used c j = true → tS c j < 124 := by decide +kernel
theorem tR_lt : ∀ (c : Fin 8) (j : J), used c j = true → tR j < 124 := by decide +kernel

/-- A chunk that is neither argument, nor own, is filled by a copy. -/
theorem reg_cases : ∀ (c : Fin 8) (r : Reg), (∃ i, r = .inr (.inl i)) ∨ (∃ j, used c j = true ∧ dr c j = r) ∨ (∃ k, own c k = r) := by
  decide +kernel

end Cert.Plan
-- ==== Proof.Steps.lean ====
/-
# How the plan's state changes from one step to the next

Between step `n` and step `n + 1` a chunk changes hands only if something happens to it at step `n`. The last part names
what a kernel operation must agree with the plan on, as decidable statements about all eight devices at once.
-/
module

public import proofs.«01_k».proof.Proof.Plan
public import Mathlib.Data.Fin.VecNotation
public import Mathlib.Data.Fintype.Pi

@[expose] public section

namespace Cert.Plan

/-- Nothing happens to the chunk at step `n`: it does not arrive and is not added. -/
theorem avail_step (c : Fin 8) (n : ℕ) (r : Reg) (h1 : ∀ j, used c j = true → dr c j = r → tR j ≠ n) (h2 : ∀ k, own c k = r → tA k ≠ n) :
    avail c n r ↔ avail c (n + 1) r := by
  unfold avail
  refine or_congr_right (or_congr ?_ ?_)
  · refine exists_congr fun j => and_congr_right fun hu => and_congr_right fun hd => ?_
    have := h1 j hu hd
    omega
  · refine exists_congr fun k => and_congr_right fun hk => ?_
    have := h2 k hk
    omega

/-- No copy that reads this half of the chunk starts or ends at step `n`. -/
theorem lent_step (c : Fin 8) (n : ℕ) (r : Reg) (b : Bool) (h : ∀ j, used c j = true → sr c j = r → side j = b → tS c j ≠ n ∧ tV j ≠ n) :
    lent c n r b ↔ lent c (n + 1) r b := by
  unfold lent
  refine exists_congr fun j => and_congr_right fun hu => and_congr_right fun hs => and_congr_right fun hb => ?_
  have := h j hu hs hb
  omega

/-- Once in a device's hands, a chunk stays there. -/
theorem avail_mono (c : Fin 8) {n n' : ℕ} (hn : n ≤ n') (r : Reg) (h : avail c n r) : avail c n' r := by
  rcases h with h | ⟨j, h1, h2, h3⟩ | ⟨k, h1, h2⟩
  · exact Or.inl h
  · exact Or.inr (Or.inl ⟨j, h1, h2, by omega⟩)
  · exact Or.inr (Or.inr ⟨k, h1, by omega⟩)

/-- A copy's rows are in the device's hands when it starts, and at every later step. -/
theorem sr_avail_later (c : Fin 8) (j : J) (hu : used c j = true) {n : ℕ} (hn : tS c j ≤ n) : avail c n (sr c j) :=
  avail_mono c hn _ (sr_avail c j hu)

/-- The half a copy will read is free when it starts. -/
theorem not_lent_start (c : Fin 8) (j : J) (hu : used c j = true) : ¬ lent c (tS c j) (sr c j) (side j) := by
  rintro ⟨i, h1, h2, h3, h4, -⟩
  have := sr_inj c i j h1 hu h2 h3
  subst this
  omega

/-- It is lent while the copy is in flight, -/
theorem lent_flight (c : Fin 8) (j : J) (hu : used c j = true) {n : ℕ} (h1 : tS c j < n) (h2 : n ≤ tV j) : lent c n (sr c j) (side j) :=
  ⟨j, hu, rfl, rfl, h1, h2⟩

/-- and free again afterwards. -/
theorem not_lent_end (c : Fin 8) (j : J) (hu : used c j = true) : ¬ lent c (tV j + 1) (sr c j) (side j) := by
  rintro ⟨i, h1, h2, h3, -, h4⟩
  have := sr_inj c i j h1 hu h2 h3
  subst this
  omega

/-- Rows about to arrive are not in the device's hands yet. -/
theorem not_avail_recv (c : Fin 8) (j : J) (hu : used c j = true) : ¬ avail c (tR j) (dr c j) := by
  rintro (⟨i, h⟩ | ⟨i, h1, h2, h3⟩ | ⟨k, h1, -⟩)
  · exact dr_ne_x c j i hu h
  · have := dr_inj c i j h1 hu h2
    subst this
    omega
  · exact dr_ne_own c j k hu h1
theorem avail_recv (c : Fin 8) (j : J) (hu : used c j = true) : avail c (tR j + 1) (dr c j) := Or.inr (Or.inl ⟨j, hu, rfl, by omega⟩)
/-- Rows just arrived are not lent. -/
theorem not_lent_recv (c : Fin 8) (j : J) (hu : used c j = true) (b : Bool) : ¬ lent c (tR j + 1) (dr c j) b := by
  rintro ⟨i, h1, h2, -, h4, -⟩
  have := forward_late c i j h1 hu h2
  omega

/-- An own chunk is in the device's hands, with its sum, after it is added. -/
theorem not_avail_own (c : Fin 8) (k : Fin 8) : ¬ avail c (tA k) (own c k) := by
  rintro (⟨i, h⟩ | ⟨i, h1, h2, -⟩ | ⟨k', h1, h2⟩)
  · exact own_ne_x c k i h
  · exact dr_ne_own c i k h1 h2.symm
  · have := own_inj c k' k h1
    subst this
    omega
theorem avail_own (c : Fin 8) (k : Fin 8) : avail c (tA k + 1) (own c k) := Or.inr (Or.inr ⟨k, rfl, by omega⟩)
theorem not_lent_own (c : Fin 8) (k : Fin 8) (b : Bool) : ¬ lent c (tA k + 1) (own c k) b := by
  rintro ⟨i, h1, h2, -, h4, -⟩
  have := own_late c i k h1 h2
  omega

/-- The z neighbour's rows are never lent; of the argument only one half is. -/
theorem not_lent_z (c : Fin 8) (n : ℕ) (k : Fin 8) (b : Bool) : ¬ lent c n (.inr (.inr k)) b := by
  rintro ⟨i, -, h, -⟩
  exact sr_ne_z c i k h
theorem not_lent_x (c : Fin 8) (n : ℕ) (k : Fin 32) : ¬ lent c n (.inr (.inl k)) false := by
  rintro ⟨i, -, h, hs, -⟩
  rw [sr_x_side c i k h] at hs
  cases hs

/-! ## Agreement of an operation with the plan -/

/-- Nothing happens on the device at step `n`. -/
def idle (c : Fin 8) (n : ℕ) : Prop := (∀ j, used c j = true → tS c j ≠ n ∧ tR j ≠ n ∧ tV j ≠ n) ∧ ∀ k, tA k ≠ n
instance (c : Fin 8) (n : ℕ) : Decidable (idle c n) := by unfold idle; infer_instance

/-- The first row of a chunk, in its buffer. -/
def row : Reg → ℕ
  | .inl r => 32 * r.val
  | .inr (.inl r) => 32 * r.val
  | .inr (.inr r) => 32 * r.val
/-- Which buffer the chunk is in: 0 the result's, 1 the argument's, 2 the z neighbour's rows'. -/
def home : Reg → ℕ
  | .inl _ => 0
  | .inr (.inl _) => 1
  | .inr (.inr _) => 2

/-- The start of copy `j` between rows of the result, at step `n` on the devices where `cond` is one, agrees with the plan. -/
def StartOK (cond : Fin 8 → BitVec 1) (n : ℕ) (j : J) (off : Fin 8 → Fin 2 → ℕ) (dev : Fin 8 → ℕ) : Prop :=
  ∀ c, if cond c = 1#1 then used c j = true ∧ tS c j = n ∧ home (sr c j) = 0 ∧ home (dr (pr j c) j) = 0
      ∧ off c = ![row (sr c j), 0] ∧ off c = ![row (dr (pr j c) j), 0] ∧ dev c = (pr j c).val
    else idle c n
instance (cond : Fin 8 → BitVec 1) (n j off dev) : Decidable (StartOK cond n j off dev) := by unfold StartOK; infer_instance

/-- The start of copy `j` of argument rows to the z neighbour, at step `n`, agrees with the plan. -/
def ZStartOK (n : ℕ) (j : J) (off : Fin 8 → Fin 2 → ℕ) (off' : Fin 2 → ℕ) (dev : Fin 8 → ℕ) : Prop :=
  ∀ c, used c j = true ∧ tS c j = n ∧ home (sr c j) = 1 ∧ home (dr (pr j c) j) = 2
      ∧ off c = ![row (sr c j), 0] ∧ off' = ![row (dr (pr j c) j), 0] ∧ dev c = (pr j c).val
instance (n j off off' dev) : Decidable (ZStartOK n j off off' dev) := by unfold ZStartOK; infer_instance

/-- The wait for the arrival of copy `j` at step `n`, on the devices where `cond` is one, agrees with the plan. -/
def RecvOK (cond : Fin 8 → BitVec 1) (n : ℕ) (j : J) : Prop :=
  ∀ c, if cond c = 1#1 then used c j = true ∧ tR j = n else idle c n
instance (cond : Fin 8 → BitVec 1) (n j) : Decidable (RecvOK cond n j) := by unfold RecvOK; infer_instance

/-- The wait for the end of copy `j`. -/
def SendOK (cond : Fin 8 → BitVec 1) (n : ℕ) (j : J) : Prop :=
  ∀ c, if cond c = 1#1 then used c j = true ∧ tV j = n else idle c n
instance (cond : Fin 8 → BitVec 1) (n j) : Decidable (SendOK cond n j) := by unfold SendOK; infer_instance

/-- The rows an addition works on are those of own chunk `k`. -/
def AddOK (k : Fin 8) (off : Fin 8 → Fin 2 → ℕ) (off' : Fin 2 → ℕ) : Prop :=
  ∀ c, off c = ![row (own c k), 0] ∧ off c = ![row (ownX c k), 0] ∧ off' = ![32 * k.val, 0]
instance (k off off') : Decidable (AddOK k off off') := by unfold AddOK; infer_instance

end Cert.Plan
-- ==== Proof.Run.Common.lean ====
/-
# What the kernel's memory and semaphores hold

The names of the kernel's buffers, chunks and semaphores in terms of the communication plan (Plan.lean), the values
the chunks finally hold, and the agreement (`Rd`) under which semaphores are signalled: what each signal hands over.
-/
module

public import proofs.«01_k».proof.Proof.Plan
public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Tactic

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The names of the units a semaphore is signalled with: a barrier has one for each axis, every other semaphore only 0. -/
abbrev D : Type := Fin 3
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Buffers and chunks -/

/-- The staged argument, the staged result, and the buffer the z neighbour's rows land in. -/
abbrev xM : Memref sig .tc .vmem S1024x512 .f32 := Memref.whole cc0_stg0_0
abbrev oM : Memref sig .tc .vmem S1024x512 .f32 := Memref.whole cc0_stg1_0
abbrev zM : Memref sig .tc .vmem S256x512 .f32 := Memref.whole cc0_scratch0

theorem inb_big (r : Fin 32) : ∀ a, (![32 * r.val, 0] : Fin 2 → Nat) a + S32x512.size a ≤ S1024x512.size a := by
  revert r; decide
theorem inb_small (k : Fin 8) : ∀ a, (![32 * k.val, 0] : Fin 2 → Nat) a + S32x512.size a ≤ S256x512.size a := by
  revert k; decide

/-- A chunk of 32 rows as the kernel addresses it. -/
def ch : Reg → Memref sig .tc .vmem S32x512 .f32
  | .inl r => oM.slice (Rect.unit (s := S1024x512) ![32 * r.val, 0] S32x512.size (inb_big r)) (fun _ => rfl)
  | .inr (.inl r) => xM.slice (Rect.unit (s := S1024x512) ![32 * r.val, 0] S32x512.size (inb_big r)) (fun _ => rfl)
  | .inr (.inr k) => zM.slice (Rect.unit (s := S256x512) ![32 * k.val, 0] S32x512.size (inb_small k)) (fun _ => rfl)

/-! ## Semaphores -/

/-- The barrier semaphore. -/
abbrev barS : Sem sig := (SemArray.scalar (sig.barrier 0 rfl) : Sems sig S_).sem

/-- A copy semaphore by its number. -/
def dnum (n : ℕ) (h : n < 78) : DmaSem sig := ⟨n, h⟩

/-- The semaphore that tells the sender (`false`) or the receiver (`true`) that copy `j` is done. -/
def dsem (b : Bool) (j : J) : DmaSem sig :=
  if h : j.val < 10 then (if b then dnum (12 + j.val) (by omega) else dnum (2 + j.val) (by omega))
  else if h' : j.val < 24 then (if b then dnum (26 + j.val) (by omega) else dnum (12 + j.val) (by omega))
  else (if b then dnum (40 + j.val) (by omega) else dnum (26 + j.val) (by omega))

/-- Which copy a semaphore belongs to, and which of its two ends. -/
def dsemOf (i : DmaSem sig) : Option (Bool × J) :=
  if h0 : i.val < 2 then none
  else if h : i.val < 12 then some (false, ⟨i.val - 2, by omega⟩)
  else if h : i.val < 22 then some (true, ⟨i.val - 12, by omega⟩)
  else if h : i.val < 36 then some (false, ⟨i.val - 12, by omega⟩)
  else if h : i.val < 50 then some (true, ⟨i.val - 26, by omega⟩)
  else if h : i.val < 64 then some (false, ⟨i.val - 26, by omega⟩)
  else some (true, ⟨i.val - 40, by have : i.val < 78 := i.isLt; omega⟩)

theorem dsemOf_dsem : ∀ (b : Bool) (j : J), dsemOf (dsem b j) = some (b, j) := by decide +kernel

/-- The name of one of a device's semaphores: its barrier, or one end of a copy. -/
abbrev CK : Type := Option (Bool × J)
def csem : CK → SemLoc sig
  | none => .reg barS
  | some (b, j) => .dma (dsem b j)
abbrev kcell (p : Dev nD × CK) : GSem nD τ sig := ((p.1 : Thread nD τ), csem p.2)
abbrev barCell (c : Dev nD) : GSem nD τ sig := kcell (c, none)
/-- Copy `j`'s semaphore on the sending device, and on the receiving one. -/
abbrev sCell (c : Dev nD) (j : J) : GSem nD τ sig := kcell (c, some (false, j))
abbrev rCell (c : Dev nD) (j : J) : GSem nD τ sig := kcell (c, some (true, j))

theorem csem_inj : Function.Injective csem := by
  rintro (_ | ⟨b, j⟩) (_ | ⟨b', j'⟩) h
  · rfl
  · cases h
  · cases h
  · have h1 : dsem b j = dsem b' j' := SemLoc.dma.inj h
    have h2 := congrArg dsemOf h1
    rw [dsemOf_dsem, dsemOf_dsem] at h2
    exact h2

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- What a copy of 32 rows adds to a semaphore. -/
abbrev N : ℕ := (ch (.inr (.inr 0))).view.dmaCredit
theorem N_pos : 0 < N := View.dmaCredit_pos _ (by decide)
theorem N_eq (r : Reg) (s : DmaSem sig) : (ch r).view.amount (.dma s) = N := by
  rcases r with r | r | r <;> rfl

/-! ## Values -/

/-- A device's block of the argument, staged. -/
def xstg (c : Dev nD) : (cc0_stg0_0 : Ref sig .tc).ty.Contents (Elt F) :=
  (win0_0.blk (0 : Fin 1)).view.read (Elt F) (m ((c : Thread nD τ).loc main_arg0))

/-- Chunk `r` of a device's block of the argument. -/
def xv (c : Dev nD) (r : Fin 32) : FVec F S32x512 .f32 := (ch (.inr (.inl r))).view.read (Elt F) (xstg m c)

/-- The value a tag names: the sum a device makes of its own rows and its z neighbour's, or the device's own rows. -/
def val (t : Bool × Fin 8 × Fin 32) : FVec F S32x512 .f32 :=
  if t.1 then k0_pay1 (xv m t.2.1 t.2.2) (xv m (zp t.2.1) t.2.2) else xv m t.2.1 t.2.2

/-! ## Holding a chunk -/

abbrev hs (b : Bool) : PosShare TreeShare := if b then fullShare.left else fullShare.right

/-- Device `c`'s chunk `r` holds `f`. -/
def pt (c : Dev nD) (r : Reg) (q : PosShare TreeShare) (f : Buf (Elt F) ((ch r).view.loc (c : Thread nD τ))) : sProp 𝕄 :=
  (ch r).view.loc (c : Thread nD τ) ↦[(ch r).view.set]{q} f
/-- Device `c`'s chunk `r` holds its final value. -/
def ptv (c : Dev nD) (r : Reg) (q : PosShare TreeShare) : sProp 𝕄 :=
  pt c r q ((ch r).view.write (Elt F) (m ((ch r).view.loc (c : Thread nD τ))) (val m (tag c r)) Finset.univ)
/-- Device `c`'s chunk `r` holds something. -/
def ptAny (c : Dev nD) (r : Reg) : sProp 𝕄 := iprop(∃ f, pt c r fullShare f)

omit [FloatOps F] in
instance pt_storable (c : Dev nD) (r) (q) (f) : BI.Storable (upEmb : UEmb _ 𝕄) (pt (F := F) c r q f) := by unfold pt; infer_instance
instance ptv_storable (c : Dev nD) (r) (q) : BI.Storable (upEmb : UEmb _ 𝕄) (ptv (F := F) m c r q) := by unfold ptv; infer_instance
omit [FloatOps F] in
instance ptAny_storable (c : Dev nD) (r) : BI.Storable (upEmb : UEmb _ 𝕄) (ptAny (F := F) c r) := by unfold ptAny; infer_instance

/-- Contents that read as the chunk's final value are as good as it. -/
theorem pt_of_read (c : Dev nD) (r : Reg) (q : PosShare TreeShare) (f : Buf (Elt F) ((ch r).view.loc (c : Thread nD τ)))
    (h : (ch r).view.read (Elt F) f = val m (tag c r)) : pt c r q f = ptv m c r q := by
  unfold ptv pt
  rw [← h]
  refine pointsTo_congr fun i hi => ?_
  rw [View.write_read_eq_piecewise, View.setOn_univ, Finset.piecewise_eq_of_mem _ _ _ hi]

/-- A chunk is two halves. -/
theorem ptv_halves (c : Dev nD) (r : Reg) :
    (ptv m c r fullShare : sProp 𝕄) ⊣⊢ iprop(ptv m c r (hs true) ∗ ptv m c r (hs false)) := by
  unfold ptv pt
  exact pointsTo_share (PosShare.mem_left_op_right fullShare)

/-! ## What the signals hand over -/

/-- What its neighbour along axis `a` gives device `c` at the barrier: the rows, on that neighbour, that `c`'s copies fill. -/
def barPay (c : Dev nD) (a : D) : sProp 𝕄 :=
  bigSep Finset.univ fun j : J => if used c j = true ∧ ax j = a then ptAny (pr j c) (dr (pr j c) j) else iprop(emp)
/-- What the arrival of copy `j` gives device `c`: the rows filled. -/
def recvPay (c : Dev nD) (j : J) : sProp 𝕄 := ptv m c (dr c j) fullShare
/-- What the end of copy `j` gives the device that sent it: the borrowed half of the rows read. -/
def sendPay (c : Dev nD) (j : J) : sProp 𝕄 := ptv m c (sr c j) (hs (side j))

omit [FloatOps F] in
instance barPay_storable (c : Dev nD) (a) : BI.Storable (upEmb : UEmb _ 𝕄) (barPay (F := F) c a) := by
  have : ∀ j : J, BI.Storable (upEmb : UEmb _ 𝕄) (if used c j = true ∧ ax j = a then ptAny (F := F) (pr j c) (dr (pr j c) j) else iprop(emp)) := by
    intro j; split <;> infer_instance
  unfold barPay
  infer_instance
instance recvPay_storable (c : Dev nD) (j) : BI.Storable (upEmb : UEmb _ 𝕄) (recvPay (F := F) m c j) := by unfold recvPay; infer_instance
instance sendPay_storable (c : Dev nD) (j) : BI.Storable (upEmb : UEmb _ 𝕄) (sendPay (F := F) m c j) := by unfold sendPay; infer_instance

def dutiesOf (d : Fin 8) : SemLoc sig → Finset D
  | .reg _ => Finset.univ
  | .dma i => match dsemOf i with
    | none => ∅
    | some (_, j) => if used d j = true then {0} else ∅

def payOf (c : Dev nD) (d : D) : SemLoc sig → sProp 𝕄
  | .reg _ => barPay c d
  | .dma i => match dsemOf i with
    | none => iprop(emp)
    | some (true, j) => recvPay m c j
    | some (false, j) => sendPay m c j

def amtOf : SemLoc sig → ℕ
  | .reg _ => 1
  | .dma _ => N

/-- The agreement: one round per semaphore. The barrier gets one unit from each neighbour, a copy's two semaphores the
    copy's amount. -/
def Rd : Rounds.Schedule (GSem nD τ sig) D 𝕄 where
  duties g r := if r = 0 ∧ g.1.2 = .tc then dutiesOf g.1.1 g.2 else ∅
  unitless _ := False
  amount g _ _ := amtOf g.2
  payload g _ d := payOf m g.1.1 d g.2
  amount_pos g _ _ _ := by
    unfold amtOf; split
    · exact Nat.one_pos
    · exact N_pos

instance Rd_payload_storable (g : GSem nD τ sig) (r : ℕ) (d : D) :
    BI.Storable (upEmb : UEmb _ 𝕄) ((Rd (F := F) m).payload g r d) := by
  show BI.Storable upEmb (payOf m g.1.1 d g.2)
  unfold payOf
  (repeat' split) <;> infer_instance

section Sched
variable (c : Dev nD) (j : J)

theorem duties_bar : (Rd (F := F) m).duties (barCell c) 0 = Finset.univ := by
  dsimp only [Rd]; rw [if_pos ⟨rfl, rfl⟩]; rfl
theorem duties_xfer (b : Bool) : (Rd (F := F) m).duties (kcell (c, some (b, j))) 0 = if used c j = true then {0} else ∅ := by
  dsimp only [Rd]; rw [if_pos ⟨rfl, rfl⟩]; dsimp only [csem, dutiesOf]; rw [dsemOf_dsem]
theorem duties_later (g : GSem nD τ sig) : ∀ r, 1 ≤ r → (Rd (F := F) m).duties g r = ∅ :=
  fun r hr => by dsimp only [Rd]; rw [if_neg fun h => by omega]
theorem duties_unused (b : Bool) (h : ¬ used c j = true) : ∀ r, 0 ≤ r → (Rd (F := F) m).duties (kcell (c, some (b, j))) r = ∅ := by
  intro r _
  rcases r with _ | r
  · rw [duties_xfer, if_neg h]
  · exact duties_later m _ _ (by omega)

theorem amount_bar (d : D) : (Rd (F := F) m).amount (barCell c) 0 d = 1 := rfl
theorem amount_xfer (b : Bool) (d : D) : (Rd (F := F) m).amount (kcell (c, some (b, j))) 0 d = N := rfl

theorem expect_bar : (Rd (F := F) m).expect (barCell c) 0 = 3 := by
  unfold Schedule.expect Schedule.amountOf
  rw [duties_bar, Finset.sum_congr rfl fun d _ => amount_bar m c d]; rfl
theorem expect_xfer (b : Bool) (h : used c j = true) : (Rd (F := F) m).expect (kcell (c, some (b, j))) 0 = N := by
  unfold Schedule.expect Schedule.amountOf; rw [duties_xfer, if_pos h, Finset.sum_singleton, amount_xfer]

theorem payload_bar (d : D) : (Rd (F := F) m).payload (barCell c) 0 d = barPay c d := rfl
theorem payload_send (d : D) : (Rd (F := F) m).payload (sCell c j) 0 d = sendPay m c j := by
  dsimp only [Rd, csem, payOf]; rw [dsemOf_dsem]
theorem payload_recv (d : D) : (Rd (F := F) m).payload (rCell c j) 0 d = recvPay m c j := by
  dsimp only [Rd, csem, payOf]; rw [dsemOf_dsem]

theorem rest_bar : bigSep ((Rd (F := F) m).duties (barCell c) 0 \ ∅) (fun d => (Rd (F := F) m).payload (barCell c) 0 d)
    = bigSep Finset.univ fun d : D => barPay c d := by
  rw [Finset.sdiff_empty, duties_bar]; rfl
theorem rest_send (h : used c j = true) :
    bigSep ((Rd (F := F) m).duties (sCell c j) 0 \ ∅) (fun d => (Rd (F := F) m).payload (sCell c j) 0 d) = sendPay m c j := by
  rw [Finset.sdiff_empty, duties_xfer, if_pos h, bigSep_singleton, payload_send]
theorem rest_recv (h : used c j = true) :
    bigSep ((Rd (F := F) m).duties (rCell c j) 0 \ ∅) (fun d => (Rd (F := F) m).payload (rCell c j) 0 d) = recvPay m c j := by
  rw [Finset.sdiff_empty, duties_xfer, if_pos h, bigSep_singleton, payload_recv]

end Sched

/-! ## What a device owes, and the order of waiting -/

/-- At step `n` device `c` owes the arrivals of the copies it has not started. -/
def owedAt (c : Dev nD) (n : ℕ) : CellTallies nD τ sig Unit :=
  ∑ j : J, if used c j = true ∧ n ≤ tS c j then tallyAt (rCell (pr j c) j) () N else 0

/-- At launch it owes its three neighbours' barriers a unit each as well. -/
def O₁ (c : Dev nD) : CellTallies nD τ sig Unit := owedAt c 0 + tallyAt (barCell (nb 2 c)) () 1
def O₂ (c : Dev nD) : CellTallies nD τ sig Unit := O₁ c + tallyAt (barCell (nb 1 c)) () 1
def O₀ (c : Dev nD) : CellTallies nD τ sig Unit := O₂ c + tallyAt (barCell (nb 0 c)) () 1

def L (g : GSem nD τ sig) : Finset Unit := if g.1.2 = .tc then {()} else ∅
/-- The barrier comes first, then arrivals by rank; ends of own copies wait for nothing. -/
def lv (g : GSem nD τ sig) (_ : Unit) : ℕ := match g.2 with
  | .reg _ => 1
  | .dma i => match dsemOf i with
    | some (true, j) => rank j
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (j : J) : lv (rCell c j) () = rank j := by
  unfold lv; dsimp only [csem]; rw [dsemOf_dsem]

theorem owedAt_pos {c : Dev nD} {n : ℕ} {g : GSem nD τ sig} {u : Unit} (h : 0 < owedAt c n g u) :
    ∃ j, used c j = true ∧ n ≤ tS c j ∧ g = rCell (pr j c) j := by
  unfold owedAt at h
  rw [Finset.sum_apply, Finsupp.finset_sum_apply] at h
  obtain ⟨j, -, hj⟩ := Finset.exists_ne_zero_of_sum_ne_zero (Nat.pos_iff_ne_zero.mp h)
  refine ⟨j, ?_⟩
  by_cases h1 : used c j = true ∧ n ≤ tS c j
  · rw [if_pos h1, tallyAt_apply] at hj
    by_cases h2 : g = rCell (pr j c) j ∧ u = ()
    · exact ⟨h1.1, h1.2, h2.1⟩
    · rw [if_neg h2] at hj; exact absurd rfl hj
  · rw [if_neg h1] at hj; exact absurd rfl hj

theorem add_pos_cases {A B : CellTallies nD τ sig Unit} {g : GSem nD τ sig} {u : Unit} (h : 0 < (A + B) g u) : 0 < A g u ∨ 0 < B g u := by
  rw [Pi.add_apply, Finsupp.add_apply] at h
  omega

theorem tally_pos {g' g : GSem nD τ sig} {u : Unit} {n : ℕ} (h : 0 < (tallyAt g' () n) g u) : g = g' := by
  rw [tallyAt_apply] at h
  by_contra hn
  rw [if_neg (fun h' => hn h'.1)] at h
  exact absurd h (Nat.lt_irrefl 0)

theorem O₀_pos {c : Dev nD} {g : GSem nD τ sig} {u : Unit} (h : 0 < O₀ c g u) :
    (∃ j, used c j = true ∧ g = rCell (pr j c) j) ∨ ∃ a, g = barCell (nb a c) := by
  unfold O₀ O₂ O₁ at h
  rcases add_pos_cases h with h | h
  · rcases add_pos_cases h with h | h
    · rcases add_pos_cases h with h | h
      · obtain ⟨j, h1, -, h2⟩ := owedAt_pos h
        exact Or.inl ⟨j, h1, h2⟩
      · exact Or.inr ⟨2, tally_pos h⟩
    · exact Or.inr ⟨1, tally_pos h⟩
  · exact Or.inr ⟨0, tally_pos h⟩

theorem rank_pos : ∀ j : J, 1 < rank j := by decide

/-- A staging semaphore may be waited for whatever is owed. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, -, rfl⟩ | ⟨a, rfl⟩ <;> exact Finset.mem_singleton_self _)
      (fun p hp => by rw [Finset.mem_singleton.mp hp]; exact Nat.le_of_eq hq)
      (fun g u hg => by
        rcases O₀_pos hg with ⟨j, -, rfl⟩ | ⟨a, rfl⟩
        · rw [lv_recv]; exact Nat.lt_trans Nat.one_pos (rank_pos j)
        · rw [lv_bar]; exact Nat.one_pos)
  · rw [MayWait_zero]; iintro -; iempintro

/-- The barrier may be waited for when only arrivals are owed. -/
theorem mayWait_bar (c : Dev nD) : (levAts L lv : sProp 𝕄) ⊢ MayWait (c : Thread nD τ) (.reg barS) () (owedAt c 0) :=
  MayOwe.of_cut (L := L) (lev := lv) 1 (fun p hp => by rw [Finset.mem_singleton.mp hp, L_tc]; exact Finset.mem_singleton_self _)
    (fun g u hg => by obtain ⟨j, -, -, rfl⟩ := owedAt_pos hg; exact Finset.mem_singleton_self _)
    (fun p hp => by rw [Finset.mem_singleton.mp hp]; exact Nat.le_of_eq (lv_bar c))
    (fun g u hg => by obtain ⟨j, -, -, rfl⟩ := owedAt_pos hg; rw [lv_recv]; exact rank_pos j)

/-- The arrival of copy `i` may be waited for at its step: every copy still owed has a higher rank. -/
theorem mayWait_recv (c : Dev nD) (i : J) (hi : used c i = true) :
    (levAts L lv : sProp 𝕄) ⊢ MayWait (c : Thread nD τ) (csem (some (true, i))) () (owedAt c (tR i)) :=
  MayOwe.of_cut (L := L) (lev := lv) (rank i) (fun p hp => by rw [Finset.mem_singleton.mp hp, L_tc]; exact Finset.mem_singleton_self _)
    (fun g u hg => by obtain ⟨j, -, -, rfl⟩ := owedAt_pos hg; exact Finset.mem_singleton_self _)
    (fun p hp => by rw [Finset.mem_singleton.mp hp]; exact Nat.le_of_eq (lv_recv c i))
    (fun g u hg => by obtain ⟨j, h1, h2, rfl⟩ := owedAt_pos hg; rw [lv_recv]; exact rank_lt c i j hi h1 h2)

/-- At the step that waits for the end of an own copy nothing is owed. -/
theorem owedAt_end (c : Dev nD) (i : J) (hi : used c i = true) : owedAt c (tV i) = 0 := by
  unfold owedAt
  refine Finset.sum_eq_zero fun j _ => if_neg fun h => ?_
  have := end_late c i j hi h.1
  omega

/-- Starting copy `i` pays its arrival. -/
theorem owedAt_start (c : Dev nD) (i : J) (hi : used c i = true) :
    owedAt c (tS c i) = owedAt c (tS c i + 1) + tallyAt (rCell (pr i c) i) () N := by
  unfold owedAt
  rw [← Finset.add_sum_erase _ _ (Finset.mem_univ i), ← Finset.add_sum_erase Finset.univ (fun j => if used c j = true ∧ tS c i + 1 ≤ tS c j then _ else _) (Finset.mem_univ i),
    if_pos ⟨hi, le_refl _⟩, if_neg (fun h => by have := h.2; omega), zero_add, add_comm]
  congr 1
  refine Finset.sum_congr rfl fun j hj => ?_
  refine if_congr (and_congr_right fun h => ?_) rfl rfl
  have hne : tS c i ≠ tS c j := fun e => (Finset.ne_of_mem_erase hj) (sep_SS c i j hi h e).symm
  omega

/-- What is owed changes only at starts. -/
theorem owedAt_step (c : Dev nD) (n : ℕ) (h : ∀ j, used c j = true → tS c j ≠ n) : owedAt c n = owedAt c (n + 1) := by
  unfold owedAt
  refine Finset.sum_congr rfl fun j _ => ?_
  refine if_congr (and_congr_right fun hu => ?_) rfl rfl
  have := h j hu
  omega

end Cert.Kernel.Pf
-- ==== Proof.Run.State.lean ====
/-
# A device's state at each step, and what one operation does to it

`Full K c n` is all that device `c` holds before step `n` of the plan. Each theorem here says that one operation of the
kernel — starting a copy, waiting for an arrival or for the end of an own copy, loading, adding — leads from one step's
state to the next.
-/
module

public import proofs.«01_k».proof.Proof.Steps
public import proofs.«01_k».proof.Proof.Run.Common

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The state -/

/-- Facts that hold throughout: the agreement is in force at every semaphore, its only round is open, and the order of
    waiting. -/
def recs (K : Dev nD × CK → ℕ) : sProp 𝕄 :=
  iprop((bigSep Finset.univ fun p : Dev nD × CK => cellInv ER (Rd m) (K p) (kcell p))
    ∗ (bigSep Finset.univ fun p : Dev nD × CK => reached ER (kcell p) 0) ∗ levAts L lv)

instance recs_persistent (K : Dev nD × CK → ℕ) : BI.Persistent (recs (F := F) m K) := by unfold recs; infer_instance

theorem recs_inv (K : Dev nD × CK → ℕ) (p : Dev nD × CK) : recs m K ⊢ (cellInv ER (Rd m) (K p) (kcell p) : sProp 𝕄) := by
  have h : (bigSep Finset.univ fun p : Dev nD × CK => (cellInv ER (Rd m) (K p) (kcell p) : sProp 𝕄)) ⊢ cellInv ER (Rd m) (K p) (kcell p) :=
    bigSep_elim (Finset.mem_univ p)
  unfold recs; iintro ⟨H, -, -⟩
  iapply h; iexact H
theorem recs_reached (K : Dev nD × CK → ℕ) (p : Dev nD × CK) : recs m K ⊢ (reached ER (kcell p) 0 : sProp 𝕄) := by
  have h : (bigSep Finset.univ fun p : Dev nD × CK => (reached ER (kcell p) 0 : sProp 𝕄)) ⊢ reached ER (kcell p) 0 :=
    bigSep_elim (Finset.mem_univ p)
  unfold recs; iintro ⟨-, H, -⟩
  iapply h; iexact H
theorem recs_lev (K : Dev nD × CK → ℕ) : recs m K ⊢ (levAts L lv : sProp 𝕄) := by
  unfold recs; iintro ⟨-, -, H⟩; iexact H

/-- For the sending end of copy `j`: before it starts, the right to start it and the rows it fills; while it is in flight,
    the right to wait for its end; then nothing more. -/
def sndSt (c : Dev nD) (n : ℕ) (j : J) : sProp 𝕄 :=
  if used c j = true then
    if n ≤ tS c j then iprop(atPos ER (sCell c j) 0 ∅ 0 ∗ dutyTok ER (sCell c j) 0 (0 : D) ∗ dutyTok ER (rCell (pr j c) j) 0 (0 : D) ∗ ptAny (pr j c) (dr (pr j c) j))
    else if n ≤ tV j then iprop(atPos ER (sCell c j) 0 ∅ 0 ∗ cred (tallyAt (sCell c j) () N))
    else atPos ER (sCell c j) 1 ∅ 0
  else atPos ER (sCell c j) 0 ∅ 0

/-- For the receiving end: the right to wait for the arrival. -/
def rcvSt (c : Dev nD) (n : ℕ) (j : J) : sProp 𝕄 :=
  if used c j = true then
    if n ≤ tR j then iprop(atPos ER (rCell c j) 0 ∅ 0 ∗ cred (tallyAt (rCell c j) () N))
    else atPos ER (rCell c j) 1 ∅ 0
  else atPos ER (rCell c j) 0 ∅ 0

/-- Half a chunk in the device's hands, unless it is lent. -/
def halfSt (c : Dev nD) (n : ℕ) (r : Reg) (b : Bool) : sProp 𝕄 := if lent c n r b then iprop(emp) else ptv m c r (hs b)

/-- A chunk: with its final value; or own and not added yet; or not in the device's hands. -/
def regSt (c : Dev nD) (n : ℕ) (r : Reg) : sProp 𝕄 :=
  if avail c n r then iprop(halfSt m c n r true ∗ halfSt m c n r false)
  else if (∃ k, own c k = r) then ptAny c r
  else iprop(emp)

/-- What device `c` holds before step `n`. -/
def Full (K : Dev nD × CK → ℕ) (c : Dev nD) (n : ℕ) : sProp 𝕄 :=
  iprop(recs m K ∗ (bigSep Finset.univ fun j : J => sndSt c n j) ∗ (bigSep Finset.univ fun j : J => rcvSt c n j)
    ∗ (bigSep Finset.univ fun r : Reg => regSt m c n r) ∗ ∃ W, owes (c : Thread nD τ) (owedAt c n) W)

/-- The program `k` runs on device `c` and establishes `Q`. -/
abbrev WP (c : Dev nD) {α : Type} (k : Prog (TpuEff nD τ sig (Elt F) Λ₀ .tc) α) (Q : α → sProp 𝕄) : sProp 𝕄 :=
  wp frame (wpE (defs₀ (F := F)) 𝒱₀ (c : Thread nD τ) none) Set.univ k Q

/-! ## What does not change -/

omit [FloatOps F] in
theorem sndSt_step (c : Dev nD) (n : ℕ) (j : J) (h : used c j = true → tS c j ≠ n ∧ tV j ≠ n) :
    (sndSt (F := F) c n j) = sndSt c (n + 1) j := by
  unfold sndSt
  by_cases hu : used c j = true
  · have := h hu
    rw [if_pos hu, if_pos hu]
    exact if_congr (by omega) rfl (if_congr (by omega) rfl rfl)
  · rw [if_neg hu, if_neg hu]

omit [FloatOps F] in
theorem rcvSt_step (c : Dev nD) (n : ℕ) (j : J) (h : used c j = true → tR j ≠ n) :
    (rcvSt (F := F) c n j) = rcvSt c (n + 1) j := by
  unfold rcvSt
  by_cases hu : used c j = true
  · have := h hu
    rw [if_pos hu, if_pos hu]
    exact if_congr (by omega) rfl rfl
  · rw [if_neg hu, if_neg hu]

theorem halfSt_step (c : Dev nD) (n : ℕ) (r : Reg) (b : Bool) (h : ∀ j, used c j = true → sr c j = r → side j = b → tS c j ≠ n ∧ tV j ≠ n) :
    halfSt m c n r b = halfSt m c (n + 1) r b := by
  unfold halfSt
  exact if_congr (lent_step c n r b h) rfl rfl

theorem regSt_step (c : Dev nD) (n : ℕ) (r : Reg) (h1 : ∀ j, used c j = true → dr c j = r → tR j ≠ n) (h2 : ∀ k, own c k = r → tA k ≠ n)
    (h3 : ∀ j, used c j = true → sr c j = r → tS c j ≠ n ∧ tV j ≠ n) :
    regSt m c n r = regSt m c (n + 1) r := by
  unfold regSt
  rw [halfSt_step m c n r true fun j hu hs _ => h3 j hu hs, halfSt_step m c n r false fun j hu hs _ => h3 j hu hs]
  exact if_congr (avail_step c n r h1 h2) rfl rfl

/-- A step at which nothing happens on the device. -/
theorem full_idle (K : Dev nD × CK → ℕ) (c : Dev nD) (n : ℕ) (h : idle c n) : Full m K c n = Full m K c (n + 1) := by
  unfold Full
  rw [bigSep_congr fun j _ => sndSt_step c n j fun hu => ⟨(h.1 j hu).1, (h.1 j hu).2.2⟩,
    bigSep_congr fun j _ => rcvSt_step c n j fun hu => (h.1 j hu).2.1,
    bigSep_congr fun r _ => regSt_step m c n r (fun j hu _ => (h.1 j hu).2.1) (fun k _ => h.2 k) (fun j hu _ => ⟨(h.1 j hu).1, (h.1 j hu).2.2⟩),
    owedAt_step c n fun j hu => (h.1 j hu).1]

omit [FloatOps F] in
/-- In a family where only one member changes, that one can be taken out and put back changed. -/
theorem bigSep_turn {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr fun j hj => h j (Finset.ne_of_mem_erase hj)]
  iintro ⟨H1, H2⟩
  isplitl [H1]; · iexact H1
  iintro H
  isplitl [H]; · iexact H
  iexact H2

omit [FloatOps F] in
/-- A member that is needed as it is. -/
theorem bigSep_peek {I : Type} [Fintype I] [DecidableEq I] (i : I) (Φ : I → sProp 𝕄) :
    bigSep Finset.univ Φ ⊢ iprop(Φ i ∗ (Φ i -∗ bigSep Finset.univ Φ)) :=
  bigSep_turn i Φ Φ fun _ _ => rfl

/-! ## The chunks the kernel's addresses name -/

theorem ch_out (r : Reg) (hr : home r = 0) (off : Fin 2 → ℕ) (inb : ∀ a, off a + S32x512.size a ≤ S1024x512.size a) (h : off = ![row r, 0]) :
    oM.slice (Rect.unit (s := S1024x512) off S32x512.size inb) (fun _ => rfl) = ch r := by
  rcases r with r | r | r
  · subst h; rfl
  · cases hr
  · cases hr
theorem ch_arg (r : Reg) (hr : home r = 1) (off : Fin 2 → ℕ) (inb : ∀ a, off a + S32x512.size a ≤ S1024x512.size a) (h : off = ![row r, 0]) :
    xM.slice (Rect.unit (s := S1024x512) off S32x512.size inb) (fun _ => rfl) = ch r := by
  rcases r with r | r | r
  · cases hr
  · subst h; rfl
  · cases hr
theorem ch_buf (r : Reg) (hr : home r = 2) (off : Fin 2 → ℕ) (inb : ∀ a, off a + S32x512.size a ≤ S256x512.size a) (h : off = ![row r, 0]) :
    zM.slice (Rect.unit (s := S256x512) off S32x512.size inb) (fun _ => rfl) = ch r := by
  rcases r with r | r | r
  · cases hr
  · cases hr
  · subst h; rfl

/-- A chunk with its final value reads as that value. -/
theorem read_final (c : Dev nD) (r : Reg) :
    (ch r).view.read (Elt F) ((ch r).view.write (Elt F) (m ((ch r).view.loc (c : Thread nD τ))) (val m (tag c r)) Finset.univ) = val m (tag c r) :=
  View.read_write_univ ..

/-! ## What an event does to each part of the state -/

omit [FloatOps F] in
theorem snds_same (c : Dev nD) (n : ℕ) (h : ∀ j, used c j = true → tS c j ≠ n ∧ tV j ≠ n) :
    (bigSep Finset.univ fun j : J => sndSt (F := F) c n j) = bigSep Finset.univ fun j : J => sndSt c (n + 1) j :=
  bigSep_congr fun j _ => sndSt_step c n j (h j)
omit [FloatOps F] in
theorem rcvs_same (c : Dev nD) (n : ℕ) (h : ∀ j, used c j = true → tR j ≠ n) :
    (bigSep Finset.univ fun j : J => rcvSt (F := F) c n j) = bigSep Finset.univ fun j : J => rcvSt c (n + 1) j :=
  bigSep_congr fun j _ => rcvSt_step c n j (h j)

omit [FloatOps F] in
/-- A start turns the right to start into the right to wait for the end. -/
theorem snds_start (c : Dev nD) (j : J) (hu : used c j = true) :
    (bigSep Finset.univ fun i : J => sndSt (F := F) c (tS c j) i)
      ⊢ iprop((atPos ER (sCell c j) 0 ∅ 0 ∗ dutyTok ER (sCell c j) 0 (0 : D) ∗ dutyTok ER (rCell (pr j c) j) 0 (0 : D) ∗ ptAny (pr j c) (dr (pr j c) j))
        ∗ ((atPos ER (sCell c j) 0 ∅ 0 ∗ cred (tallyAt (sCell c j) () N)) -∗ bigSep Finset.univ fun i : J => sndSt c (tS c j + 1) i)) := by
  have h1 : (sndSt (F := F) c (tS c j) j) = iprop(atPos ER (sCell c j) 0 ∅ 0 ∗ dutyTok ER (sCell c j) 0 (0 : D) ∗ dutyTok ER (rCell (pr j c) j) 0 (0 : D) ∗ ptAny (pr j c) (dr (pr j c) j)) := by
    unfold sndSt; rw [if_pos hu, if_pos (le_refl _)]
  have h2 : (sndSt (F := F) c (tS c j + 1) j) = iprop(atPos ER (sCell c j) 0 ∅ 0 ∗ cred (tallyAt (sCell c j) () N)) := by
    unfold sndSt; rw [if_pos hu, if_neg (by omega), if_pos (show tS c j + 1 ≤ tV j from start_lt c j hu)]
  rw [← h1, ← h2]
  exact bigSep_turn j _ _ fun i hi => sndSt_step c _ i fun hi' => ⟨fun e => hi (sep_SS c i j hi' hu e), (sep_SV c j i hu hi').symm⟩

omit [FloatOps F] in
/-- Waiting for the end uses that right up. -/
theorem snds_end (c : Dev nD) (j : J) (hu : used c j = true) :
    (bigSep Finset.univ fun i : J => sndSt (F := F) c (tV j) i)
      ⊢ iprop((atPos ER (sCell c j) 0 ∅ 0 ∗ cred (tallyAt (sCell c j) () N))
        ∗ (atPos ER (sCell c j) 1 ∅ 0 -∗ bigSep Finset.univ fun i : J => sndSt c (tV j + 1) i)) := by
  have h0 := start_lt c j hu
  have h1 : (sndSt (F := F) c (tV j) j) = iprop(atPos ER (sCell c j) 0 ∅ 0 ∗ cred (tallyAt (sCell c j) () N)) := by
    unfold sndSt; rw [if_pos hu, if_neg (by omega), if_pos (le_refl _)]
  have h2 : (sndSt (F := F) c (tV j + 1) j) = atPos ER (sCell c j) 1 ∅ 0 := by
    unfold sndSt; rw [if_pos hu, if_neg (by omega), if_neg (by omega)]
  rw [← h1, ← h2]
  exact bigSep_turn j _ _ fun i hi => sndSt_step c _ i fun hi' => ⟨sep_SV c i j hi' hu, fun e => hi (sep_VV c i j hi' hu e)⟩

omit [FloatOps F] in
/-- Waiting for an arrival uses up the right to. -/
theorem rcvs_recv (c : Dev nD) (j : J) (hu : used c j = true) :
    (bigSep Finset.univ fun i : J => rcvSt (F := F) c (tR j) i)
      ⊢ iprop((atPos ER (rCell c j) 0 ∅ 0 ∗ cred (tallyAt (rCell c j) () N))
        ∗ (atPos ER (rCell c j) 1 ∅ 0 -∗ bigSep Finset.univ fun i : J => rcvSt c (tR j + 1) i)) := by
  have h1 : (rcvSt (F := F) c (tR j) j) = iprop(atPos ER (rCell c j) 0 ∅ 0 ∗ cred (tallyAt (rCell c j) () N)) := by
    unfold rcvSt; rw [if_pos hu, if_pos (le_refl _)]
  have h2 : (rcvSt (F := F) c (tR j + 1) j) = atPos ER (rCell c j) 1 ∅ 0 := by
    unfold rcvSt; rw [if_pos hu, if_neg (by omega)]
  rw [← h1, ← h2]
  exact bigSep_turn j _ _ fun i hi => rcvSt_step c _ i fun hi' => fun e => hi (sep_RR c i j hi' hu e)

/-- A chunk in the device's hands, one half named first. -/
theorem regSt_out (c : Dev nD) (n : ℕ) (r : Reg) (b : Bool) (h : avail c n r) :
    regSt m c n r ⊢ iprop(halfSt m c n r b ∗ halfSt m c n r (!b)) := by
  unfold regSt; rw [if_pos h]
  cases b
  · simp only [Bool.not_false]
    iintro ⟨H1, H2⟩; isplitl [H2] <;> iassumption
  · exact BI.Entails.refl _
theorem regSt_in (c : Dev nD) (n : ℕ) (r : Reg) (b : Bool) (h : avail c n r) :
    iprop(halfSt m c n r b ∗ halfSt m c n r (!b)) ⊢ regSt m c n r := by
  unfold regSt; rw [if_pos h]
  cases b
  · simp only [Bool.not_false]
    iintro ⟨H1, H2⟩; isplitl [H2] <;> iassumption
  · exact BI.Entails.refl _

/-- At a start the half to be read is lent. -/
theorem regs_lend (c : Dev nD) (j : J) (hu : used c j = true) :
    (bigSep Finset.univ fun r : Reg => regSt m c (tS c j) r)
      ⊢ iprop(ptv m c (sr c j) (hs (side j)) ∗ bigSep Finset.univ fun r : Reg => regSt m c (tS c j + 1) r) := by
  have h1 : halfSt m c (tS c j) (sr c j) (side j) = ptv m c (sr c j) (hs (side j)) := by
    unfold halfSt; rw [if_neg (not_lent_start c j hu)]
  have h2 : halfSt m c (tS c j + 1) (sr c j) (side j) = iprop(emp) := by
    unfold halfSt; rw [if_pos (lent_flight c j hu (Nat.lt_succ_self _) (start_lt c j hu))]
  have h3 : halfSt m c (tS c j) (sr c j) (!side j) = halfSt m c (tS c j + 1) (sr c j) (!side j) :=
    halfSt_step m c _ _ _ fun i hi hs hb => ⟨fun e => by
      have := sep_SS c i j hi hu e
      subst this
      exact absurd hb (by cases side i <;> decide), (sep_SV c j i hu hi).symm⟩
  iintro H
  ihave H := (bigSep_turn (F := F) (sr c j) (fun r => regSt m c (tS c j) r) (fun r => regSt m c (tS c j + 1) r) fun r hr =>
    regSt_step m c _ r (fun i hi _ => (sep_SR c j i hu hi).symm) (fun k _ => (sep_SA c j k hu).symm)
      (fun i hi hs => ⟨fun e => hr (by rw [sep_SS c i j hi hu e] at hs; exact hs.symm), (sep_SV c j i hu hi).symm⟩)) $$ H
  icases H with ⟨Hr, Hback⟩
  ihave Hr := (regSt_out m c _ _ (side j) (sr_avail c j hu)) $$ Hr
  rw [h1, h3]
  icases Hr with ⟨Ha, Hb⟩
  isplitl [Ha]; · iexact Ha
  iapply Hback
  iapply (regSt_in m c _ _ (side j) (sr_avail_later c j hu (Nat.le_succ _)))
  rw [h2]
  isplitr; · iempintro
  iexact Hb

/-- After the wait for the end it is back. -/
theorem regs_return (c : Dev nD) (j : J) (hu : used c j = true) :
    iprop(ptv m c (sr c j) (hs (side j)) ∗ bigSep Finset.univ fun r : Reg => regSt m c (tV j) r)
      ⊢ bigSep Finset.univ fun r : Reg => regSt m c (tV j + 1) r := by
  have h0 := start_lt c j hu
  have h1 : halfSt m c (tV j) (sr c j) (side j) = iprop(emp) := by
    unfold halfSt; rw [if_pos (lent_flight c j hu h0 (le_refl _))]
  have h2 : halfSt m c (tV j + 1) (sr c j) (side j) = ptv m c (sr c j) (hs (side j)) := by
    unfold halfSt; rw [if_neg (not_lent_end c j hu)]
  have h3 : halfSt m c (tV j) (sr c j) (!side j) = halfSt m c (tV j + 1) (sr c j) (!side j) :=
    halfSt_step m c _ _ _ fun i hi hs hb => ⟨sep_SV c i j hi hu, fun e => by
      have := sep_VV c i j hi hu e
      subst this
      exact absurd hb (by cases side i <;> decide)⟩
  iintro ⟨Hp, H⟩
  ihave H := (bigSep_turn (F := F) (sr c j) (fun r => regSt m c (tV j) r) (fun r => regSt m c (tV j + 1) r) fun r hr =>
    regSt_step m c _ r (fun i hi _ => sep_RV c i j hi hu) (fun k _ => (sep_VA c j k hu).symm)
      (fun i hi hs => ⟨sep_SV c i j hi hu, fun e => hr (by rw [sep_VV c i j hi hu e] at hs; exact hs.symm)⟩)) $$ H
  icases H with ⟨Hr, Hback⟩
  ihave Hr := (regSt_out m c _ _ (side j) (sr_avail_later c j hu (Nat.le_of_lt h0))) $$ Hr
  rw [h1, h3]
  icases Hr with ⟨-, Hb⟩
  iapply Hback
  iapply (regSt_in m c _ _ (side j) (sr_avail_later c j hu (by omega)))
  rw [h2]
  isplitl [Hp]; · iexact Hp
  iexact Hb

/-- Rows that arrive are in the device's hands. -/
theorem regs_arrive (c : Dev nD) (j : J) (hu : used c j = true) :
    iprop(ptv m c (dr c j) fullShare ∗ bigSep Finset.univ fun r : Reg => regSt m c (tR j) r)
      ⊢ bigSep Finset.univ fun r : Reg => regSt m c (tR j + 1) r := by
  have h2 (b : Bool) : halfSt m c (tR j + 1) (dr c j) b = ptv m c (dr c j) (hs b) := by
    unfold halfSt; rw [if_neg (not_lent_recv c j hu b)]
  iintro ⟨Hp, H⟩
  ihave H := (bigSep_turn (F := F) (dr c j) (fun r => regSt m c (tR j) r) (fun r => regSt m c (tR j + 1) r) fun r hr =>
    regSt_step m c _ r (fun i hi hd e => hr (by rw [sep_RR c i j hi hu e] at hd; exact hd.symm)) (fun k _ => (sep_RA c j k hu).symm)
      (fun i hi hs => ⟨sep_SR c i j hi hu, (sep_RV c j i hu hi).symm⟩)) $$ H
  icases H with ⟨-, Hback⟩
  iapply Hback
  iapply (regSt_in m c _ _ true (avail_recv c j hu))
  rw [h2, h2]
  iapply (ptv_halves m c (dr c j)).1; iexact Hp

/-- An own chunk may be overwritten at its step, and is in the device's hands once it holds its sum. -/
theorem regs_add (c : Dev nD) (k : Fin 8) :
    (bigSep Finset.univ fun r : Reg => regSt m c (tA k) r)
      ⊢ iprop(ptAny c (own c k) ∗ (ptv m c (own c k) fullShare -∗ bigSep Finset.univ fun r : Reg => regSt m c (tA k + 1) r)) := by
  have h1 : regSt m c (tA k) (own c k) = ptAny c (own c k) := by
    unfold regSt; rw [if_neg (not_avail_own c k), if_pos ⟨k, rfl⟩]
  have h2 (b : Bool) : halfSt m c (tA k + 1) (own c k) b = ptv m c (own c k) (hs b) := by
    unfold halfSt; rw [if_neg (not_lent_own c k b)]
  iintro H
  ihave H := (bigSep_turn (F := F) (own c k) (fun r => regSt m c (tA k) r) (fun r => regSt m c (tA k + 1) r) fun r hr =>
    regSt_step m c _ r (fun i hi _ => sep_RA c i k hi) (fun k' hk e => hr (by rw [sep_AA k' k e] at hk; exact hk.symm))
      (fun i hi hs => ⟨sep_SA c i k hi, sep_VA c i k hi⟩)) $$ H
  icases H with ⟨Hr, Hback⟩
  ihave Hr := (Entails.of_eq h1) $$ Hr
  isplitl [Hr]; · iexact Hr
  iintro Hp
  iapply Hback
  iapply (regSt_in m c _ _ true (avail_own c k))
  rw [h2, h2]
  iapply (ptv_halves m c (own c k)).1; iexact Hp

/-- A chunk in the device's hands, one half of it not lent, can be looked at. -/
theorem regs_peek (c : Dev nD) (n : ℕ) (r : Reg) (b : Bool) (h : avail c n r) (hl : ¬ lent c n r b) :
    (bigSep Finset.univ fun r : Reg => regSt m c n r)
      ⊢ iprop(ptv m c r (hs b) ∗ (ptv m c r (hs b) -∗ bigSep Finset.univ fun r : Reg => regSt m c n r)) := by
  have h1 : halfSt m c n r b = ptv m c r (hs b) := by unfold halfSt; rw [if_neg hl]
  iintro H
  ihave H := (bigSep_peek (F := F) r (fun r => regSt m c n r)) $$ H
  icases H with ⟨Hr, Hback⟩
  ihave Hr := (regSt_out m c _ _ b h) $$ Hr
  rw [h1]
  icases Hr with ⟨Ha, Hb⟩
  isplitl [Ha]; · iexact Ha
  iintro Ha
  iapply Hback
  iapply (regSt_in m c _ _ b h)
  rw [h1]
  isplitl [Ha]; · iexact Ha
  iexact Hb

/-! ## The operations -/

section Ops
variable (K : Dev nD × CK → ℕ) (c : Dev nD)

/-- Starting copy `j` at its step: the rows to be read are lent, the rows to be filled and the right to signal go with it. -/
theorem step_copy (j : J) {α : Type} {Q : α → sProp 𝕄} {k : PUnit → Prog (TpuEff nD τ sig (Elt F) Λ₀ .tc) α} (hu : used c j = true) {n : ℕ} (hn : tS c j = n)
    (src dst : Memref sig .tc .vmem S32x512 .f32) (p : Dev nD) (sS rS : DmaSem sig)
    (hsrc : src = ch (sr c j)) (hdst : dst = ch (dr (pr j c) j)) (hp : p = pr j c) (hsS : sS = dsem false j) (hrS : rS = dsem true j)
    {hsc : dst.view.ref.isScScratch = false} {h1 : src.view.WordExact} {h2 : dst.view.WordExact}
    {h3 : DmaTarget.Typed .vmem (.dma rS) (.remote (Dev.tc p : Thread nD τ) dst (.dma sS) hsc)}
    (hk : Full m K c (n + 1) ⊢ WP c (k ⟨⟩) Q) :
    Full m K c n ⊢ WP c (.op (.enqueueDma src (.remote (Dev.tc p : Thread nD τ) dst (.dma sS) hsc) (.dma rS) h1 h2 h3) k) Q := by
  subst hn hsrc hdst hp hsS hrS
  unfold Full
  iintro ⟨#HR, HS, HV, HG, ⟨%W, HO⟩⟩
  ihave HS := (snds_start (F := F) c j hu) $$ HS
  icases HS with ⟨⟨Hat, HtS, HtR, Hd⟩, HS⟩
  unfold ptAny
  icases Hd with ⟨%fd, Hd⟩
  ihave HG := (regs_lend m c j hu) $$ HG
  icases HG with ⟨Hs, HG⟩
  unfold ptv pt
  iapply (Rounds.wp_send_pointsTo 𝒱₀ ER (Rd m) (c : Thread nD τ) none (κ₁ := K (c, some (false, j))) (κ₂ := K (pr j c, some (true, j)))
    (r₁ := 0) (r₂ := 0) (d₁ := (0 : D)) (d₂ := (0 : D)) (fd := fd)
    (show (0 : D) ∈ (Rd (F := F) m).duties (kcell (c, some (false, j))) 0 from by rw [duties_xfer, if_pos hu]; exact Finset.mem_singleton_self _)
    (show (0 : D) ∈ (Rd (F := F) m).duties (kcell (pr j c, some (true, j))) 0 from by rw [duties_xfer, used_pr, if_pos hu]; exact Finset.mem_singleton_self _)
    () () N (N_eq _ _) (amount_xfer m c j false 0) (amount_xfer m (pr j c) j true 0) (owedAt c (tS c j + 1)) (owedAt_start c j hu) (W := W)
    (show _ ⊢ (Rd (F := F) m).payload (sCell c j) 0 0 from by rw [payload_send]; exact BI.Entails.refl _)
    (show _ ⊢ (Rd (F := F) m).payload (rCell (pr j c) j) 0 0 from by
      rw [payload_recv]; unfold recvPay
      exact Entails.of_eq (pt_of_read m (pr j c) (dr (pr j c) j) fullShare _ (by rw [View.read_write_univ, read_final, tag_copy c j hu])))) $$ [Hs Hd HO HtS HtR]
  · isplitr; · iapply (recs_inv m K (c, some (false, j))); iexact HR
    isplitr; · iapply (recs_inv m K (pr j c, some (true, j))); iexact HR
    isplitl [Hs]; · iexact Hs
    isplitl [Hd]; · iexact Hd
    isplitl [HO]; · iexact HO
    isplitl [HtS]; · iexact HtS
    isplitr; · iapply (recs_reached m K (c, some (false, j))); iexact HR
    isplitl [HtR]; · iexact HtR
    iapply (recs_reached m K (pr j c, some (true, j))); iexact HR
  iintro ⟨Hc, HO⟩
  iapply hk
  unfold Full
  isplitr; · iexact HR
  isplitl [HS Hat Hc]
  · iapply HS; isplitl [Hat]; · iexact Hat
    iexact Hc
  isplitl [HV]
  · rw [← rcvs_same (F := F) c (tS c j) fun i hi => (sep_SR c j i hu hi).symm]; iexact HV
  isplitl [HG]; · iexact HG
  iexists W; iexact HO

/-- Waiting for the arrival of copy `j` at its step: the rows it fills are in the device's hands. -/
theorem step_recv (j : J) {α : Type} {Q : α → sProp 𝕄} {k : PUnit → Prog (TpuEff nD τ sig (Elt F) Λ₀ .tc) α} (hu : used c j = true) {n : ℕ} (hn : tR j = n)
    {sp sp' : Space} {s s' : Shape} {e e' : EltTy} {sem : DmaSem sig} {src : Memref sig .tc sp' s' e'} {dst : Memref sig .tc sp s e}
    {h1 : src.view.WordExact} {h2 : dst.view.WordExact} (hs : sem = dsem true j) (hN : dst.view.dmaCredit = N)
    (hk : Full m K c (n + 1) ⊢ WP c (k ⟨⟩) Q) :
    Full m K c n ⊢ WP c (.op (.waitDma2 sem src dst h1 h2) k) Q := by
  subst hn hs
  unfold Full
  iintro ⟨#HR, HS, HV, HG, ⟨%W, HO⟩⟩
  ihave HV := (rcvs_recv (F := F) c j hu) $$ HV
  icases HV with ⟨⟨Hat, Hc⟩, HV⟩
  iapply (Rounds.wp_wait_rest_token 𝒱₀ ER (Rd m) (c : Thread nD τ) none (κ := K (c, some (true, j)))
      (wpE_waitDma2_eq 𝒱₀ (c : Thread nD τ) none Set.univ) (Set.mem_univ _) () (O := owedAt c (tR j)) (W := W) (R := 0) (m := 0) (T := ∅)
      (by rw [Nat.zero_add, hN]; exact (expect_xfer m c j true hu).symm)) $$ [Hc HO Hat]
  · isplitr; · iapply (recs_inv m K (c, some (true, j))); iexact HR
    isplitl [Hc]; · rw [hN]; iexact Hc
    isplitl [HO]; · iexact HO
    isplitr; · iapply (mayWait_recv c j hu); iapply (recs_lev m K); iexact HR
    iexact Hat
  iintro ⟨HO, Hat, -, Hpay⟩
  ihave Hp := (show bigSep ((Rd (F := F) m).duties ((c : Thread nD τ), .dma (dsem true j)) 0 \ ∅) (fun d => (Rd (F := F) m).payload ((c : Thread nD τ), .dma (dsem true j)) 0 d) ⊢ recvPay m c j from Entails.of_eq (rest_recv m c j hu)) $$ Hpay
  iapply hk
  unfold Full
  isplitr; · iexact HR
  isplitl [HS]
  · rw [← snds_same (F := F) c (tR j) fun i hi => ⟨sep_SR c i j hi hu, (sep_RV c j i hu hi).symm⟩]; iexact HS
  isplitl [HV Hat]; · iapply HV; iexact Hat
  isplitl [HG Hp]
  · iapply (regs_arrive m c j hu); isplitl [Hp]; · unfold recvPay; iexact Hp
    iexact HG
  iexists _
  rw [← owedAt_step c (tR j) fun i hi => sep_SR c i j hi hu]; iexact HO

/-- Waiting for the end of copy `j` at its step: the half of the rows read is back. -/
theorem step_send (j : J) {α : Type} {Q : α → sProp 𝕄} {k : PUnit → Prog (TpuEff nD τ sig (Elt F) Λ₀ .tc) α} (hu : used c j = true) {n : ℕ} (hn : tV j = n)
    {sp sp' : Space} {s s' : Shape} {e e' : EltTy} {sem : DmaSem sig} {src : Memref sig .tc sp' s' e'} {dst : Memref sig .tc sp s e}
    {h1 : src.view.WordExact} {h2 : dst.view.WordExact} (hs : sem = dsem false j) (hN : dst.view.dmaCredit = N)
    (hk : Full m K c (n + 1) ⊢ WP c (k ⟨⟩) Q) :
    Full m K c n ⊢ WP c (.op (.waitDma2 sem src dst h1 h2) k) Q := by
  subst hn hs
  unfold Full
  rw [owedAt_end c j hu]
  iintro ⟨#HR, HS, HV, HG, ⟨%W, HO⟩⟩
  ihave HS := (snds_end (F := F) c j hu) $$ HS
  icases HS with ⟨⟨Hat, Hc⟩, HS⟩
  iapply (Rounds.wp_wait_rest_token 𝒱₀ ER (Rd m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, hN]; exact (expect_xfer m c j false hu).symm)) $$ [Hc HO Hat]
  · isplitr; · iapply (recs_inv m K (c, some (false, j))); iexact HR
    isplitl [Hc]; · rw [hN]; iexact Hc
    isplitl [HO]; · iexact HO
    isplitr; · rw [MayWait_zero]; iempintro
    iexact Hat
  iintro ⟨HO, Hat, -, Hpay⟩
  ihave Hp := (show bigSep ((Rd (F := F) m).duties ((c : Thread nD τ), .dma (dsem false j)) 0 \ ∅) (fun d => (Rd (F := F) m).payload ((c : Thread nD τ), .dma (dsem false j)) 0 d) ⊢ sendPay m c j from Entails.of_eq (rest_send m c j hu)) $$ Hpay
  iapply hk
  unfold Full
  isplitr; · iexact HR
  isplitl [HS Hat]; · iapply HS; iexact Hat
  isplitl [HV]
  · rw [← rcvs_same (F := F) c (tV j) fun i hi => sep_RV c i j hi hu]; iexact HV
  isplitl [HG Hp]
  · iapply (regs_return m c j hu); isplitl [Hp]; · unfold sendPay; iexact Hp
    iexact HG
  iexists _
  rw [← owedAt_step c (tV j) fun i hi => sep_SV c i j hi hu, owedAt_end c j hu]; iexact HO

/-! The same holdings, as loads and stores address them. -/

theorem zR_val : ∀ q : Fin 8, zR q.val = .inr (.inr q) := by decide
/-- A chunk's final contents as a whole buffer. -/
abbrev fin (c : Dev nD) (r : Reg) : Buf (Elt F) ((ch r).view.loc (c : Thread nD τ)) :=
  (ch r).view.write (Elt F) (m ((ch r).view.loc (c : Thread nD τ))) (val m (tag c r)) Finset.univ

theorem load_arg (c : Dev nD) (r : Fin 32) {α : Type} {Q : α → sProp 𝕄}
    {inb : ∀ a, (![32 * r.val, 0] : Fin 2 → ℕ) a + S32x512.size a ≤ S1024x512.size a}
    {hl : xM.view.LoadsAt (Rect.unit (s := S1024x512) ![32 * r.val, 0] S32x512.size inb).toLoadRect}
    {k : ((Rect.unit (s := S1024x512) ![32 * r.val, 0] S32x512.size inb).shape.Idx → Elt F .f32) → Prog (TpuEff nD τ sig (Elt F) Λ₀ .tc) α} :
    (ptv m c (.inr (.inl r)) (hs false))
      ⊢ iprop((ptv m c (.inr (.inl r)) (hs false) -∗ WP c (k (val m (tag c (.inr (.inl r))))) Q)
        -∗ WP c (.op (.load xM (Rect.unit (s := S1024x512) ![32 * r.val, 0] S32x512.size inb).toLoadRect hl) k) Q) := by
  have h : (xM.access (Rect.unit (s := S1024x512) ![32 * r.val, 0] S32x512.size inb)).read (Elt F) (fin m c (.inr (.inl r))) = val m (tag c (.inr (.inl r))) :=
    read_final m c (.inr (.inl r))
  have e : (ptv m c (.inr (.inl r)) (hs false))
      ⊢ iprop((ptv m c (.inr (.inl r)) (hs false) -∗ WP c (k ((xM.access (Rect.unit (s := S1024x512) ![32 * r.val, 0] S32x512.size inb)).read (Elt F) (fin m c (.inr (.inl r))))) Q)
        -∗ WP c (.op (.load xM (Rect.unit (s := S1024x512) ![32 * r.val, 0] S32x512.size inb).toLoadRect hl) k) Q) :=
    wp_load_rect 𝒱₀ (c : Thread nD τ) none Set.univ (m := xM) (q := hs false) (f := fin m c (.inr (.inl r))) (Finset.Subset.refl _)
  rw [h] at e
  exact e

theorem load_buf (c : Dev nD) (r : Fin 8) {α : Type} {Q : α → sProp 𝕄}
    {inb : ∀ a, (![32 * r.val, 0] : Fin 2 → ℕ) a + S32x512.size a ≤ S256x512.size a}
    {hl : zM.view.LoadsAt (Rect.unit (s := S256x512) ![32 * r.val, 0] S32x512.size inb).toLoadRect}
    {k : ((Rect.unit (s := S256x512) ![32 * r.val, 0] S32x512.size inb).shape.Idx → Elt F .f32) → Prog (TpuEff nD τ sig (Elt F) Λ₀ .tc) α} :
    (ptv m c (.inr (.inr r)) (hs false))
      ⊢ iprop((ptv m c (.inr (.inr r)) (hs false) -∗ WP c (k (val m (tag c (.inr (.inr r))))) Q)
        -∗ WP c (.op (.load zM (Rect.unit (s := S256x512) ![32 * r.val, 0] S32x512.size inb).toLoadRect hl) k) Q) := by
  have h : (zM.access (Rect.unit (s := S256x512) ![32 * r.val, 0] S32x512.size inb)).read (Elt F) (fin m c (.inr (.inr r))) = val m (tag c (.inr (.inr r))) :=
    read_final m c (.inr (.inr r))
  have e : (ptv m c (.inr (.inr r)) (hs false))
      ⊢ iprop((ptv m c (.inr (.inr r)) (hs false) -∗ WP c (k ((zM.access (Rect.unit (s := S256x512) ![32 * r.val, 0] S32x512.size inb)).read (Elt F) (fin m c (.inr (.inr r))))) Q)
        -∗ WP c (.op (.load zM (Rect.unit (s := S256x512) ![32 * r.val, 0] S32x512.size inb).toLoadRect hl) k) Q) :=
    wp_load_rect 𝒱₀ (c : Thread nD τ) none Set.univ (m := zM) (q := hs false) (f := fin m c (.inr (.inr r))) (Finset.Subset.refl _)
  rw [h] at e
  exact e

theorem load_own (c : Dev nD) (r : Fin 32) {α : Type} {Q : α → sProp 𝕄} (f : Buf (Elt F) ((ch (.inl r)).view.loc (c : Thread nD τ)))
    {inb : ∀ a, (![32 * r.val, 0] : Fin 2 → ℕ) a + S32x512.size a ≤ S1024x512.size a}
    {hl : oM.view.LoadsAt (Rect.unit (s := S1024x512) ![32 * r.val, 0] S32x512.size inb).toLoadRect}
    {k : ((Rect.unit (s := S1024x512) ![32 * r.val, 0] S32x512.size inb).shape.Idx → Elt F .f32) → Prog (TpuEff nD τ sig (Elt F) Λ₀ .tc) α} :
    (pt c (.inl r) fullShare f)
      ⊢ iprop((pt c (.inl r) fullShare f -∗ WP c (k ((oM.access (Rect.unit (s := S1024x512) ![32 * r.val, 0] S32x512.size inb)).read (Elt F) f)) Q)
        -∗ WP c (.op (.load oM (Rect.unit (s := S1024x512) ![32 * r.val, 0] S32x512.size inb).toLoadRect hl) k) Q) :=
  wp_load_rect 𝒱₀ (c : Thread nD τ) none Set.univ (m := oM) (q := fullShare) (f := f) (Finset.Subset.refl _)

theorem store_own (c : Dev nD) (r : Fin 32) {α : Type} {Q : α → sProp 𝕄} (f : Buf (Elt F) ((ch (.inl r)).view.loc (c : Thread nD τ)))
    {inb : ∀ a, (![32 * r.val, 0] : Fin 2 → ℕ) a + S32x512.size a ≤ S1024x512.size a}
    {hx : (oM.access (Rect.unit (s := S1024x512) ![32 * r.val, 0] S32x512.size inb)).Stores Finset.univ}
    {hm : Finset.univ = Finset.univ ∨ ∀ a, (Rect.unit (s := S1024x512) ![32 * r.val, 0] S32x512.size inb).stride a = 1}
    {w : FVec F S32x512 .f32} {k : PUnit → Prog (TpuEff nD τ sig (Elt F) Λ₀ .tc) α} :
    (pt c (.inl r) fullShare f)
      ⊢ iprop((pt c (.inl r) fullShare ((ch (.inl r)).view.write (Elt F) f w Finset.univ) -∗ WP c (k ⟨⟩) Q)
        -∗ WP c (.op (.store oM (Rect.unit (s := S1024x512) ![32 * r.val, 0] S32x512.size inb) w Finset.univ hx hm) k) Q) :=
  wp_store 𝒱₀ (c : Thread nD τ) none Set.univ (m := oM) (f := f) (Finset.Subset.refl _)

/-- Loading argument rows gives them. -/
theorem step_load_arg (r : Reg) (hr : home r = 1) {n : ℕ} {α : Type} {Q : α → sProp 𝕄}
    {off : Fin 2 → ℕ} {inb : ∀ a, off a + S32x512.size a ≤ S1024x512.size a} (h : off = ![row r, 0])
    {hl : xM.view.LoadsAt (Rect.unit (s := S1024x512) off S32x512.size inb).toLoadRect}
    {k : ((Rect.unit (s := S1024x512) off S32x512.size inb).shape.Idx → Elt F .f32) → Prog (TpuEff nD τ sig (Elt F) Λ₀ .tc) α}
    (hk : Full m K c n ⊢ WP c (k (val m (tag c r))) Q) :
    Full m K c n ⊢ WP c (.op (.load xM (Rect.unit (s := S1024x512) off S32x512.size inb).toLoadRect hl) k) Q := by
  rcases r with r | r | r
  · cases hr
  · subst h
    unfold Full
    iintro ⟨#HR, HS, HV, HG, HO⟩
    ihave HG := (regs_peek m c n (.inr (.inl r)) false (Or.inl ⟨r, rfl⟩) (not_lent_x c n r)) $$ HG
    icases HG with ⟨Hp, HG⟩
    iapply (load_arg m c r) $$ Hp
    iintro Hp
    ihave HG := HG $$ Hp
    iapply hk
    unfold Full
    isplitr; · iexact HR
    isplitl [HS]; · iexact HS
    isplitl [HV]; · iexact HV
    isplitl [HG]; · iexact HG
    iexact HO
  · cases hr

/-- Loading the z neighbour's rows, once they have arrived, gives them. -/
theorem step_load_buf (q : Fin 8) {n : ℕ} (hn : tA q = n) {α : Type} {Q : α → sProp 𝕄}
    {off : Fin 2 → ℕ} {inb : ∀ a, off a + S32x512.size a ≤ S256x512.size a} (h : off = ![32 * q.val, 0])
    {hl : zM.view.LoadsAt (Rect.unit (s := S256x512) off S32x512.size inb).toLoadRect}
    {k : ((Rect.unit (s := S256x512) off S32x512.size inb).shape.Idx → Elt F .f32) → Prog (TpuEff nD τ sig (Elt F) Λ₀ .tc) α}
    (hk : Full m K c n ⊢ WP c (k (val m (tag c (.inr (.inr q))))) Q) :
    Full m K c n ⊢ WP c (.op (.load zM (Rect.unit (s := S256x512) off S32x512.size inb).toLoadRect hl) k) Q := by
  subst h hn
  have hz : zR q.val = .inr (.inr q) := zR_val q
  unfold Full
  iintro ⟨#HR, HS, HV, HG, HO⟩
  ihave HG := (regs_peek m c (tA q) (.inr (.inr q)) false (by rw [← hz]; exact z_avail c q) (not_lent_z c _ q _)) $$ HG
  icases HG with ⟨Hp, HG⟩
  iapply (load_buf m c q) $$ Hp
  iintro Hp
  ihave HG := HG $$ Hp
  iapply hk
  unfold Full
  isplitr; · iexact HR
  isplitl [HS]; · iexact HS
  isplitl [HV]; · iexact HV
  isplitl [HG]; · iexact HG
  iexact HO

/-- Loading an own chunk before it is added gives something. -/
theorem step_load_own (q : Fin 8) {n : ℕ} (hn : tA q = n) {α : Type} {Q : α → sProp 𝕄}
    {off : Fin 2 → ℕ} {inb : ∀ a, off a + S32x512.size a ≤ S1024x512.size a} (h : off = ![row (own c q), 0])
    {hl : oM.view.LoadsAt (Rect.unit (s := S1024x512) off S32x512.size inb).toLoadRect}
    {k : ((Rect.unit (s := S1024x512) off S32x512.size inb).shape.Idx → Elt F .f32) → Prog (TpuEff nD τ sig (Elt F) Λ₀ .tc) α}
    (hk : ∀ v, Full m K c n ⊢ WP c (k v) Q) :
    Full m K c n ⊢ WP c (.op (.load oM (Rect.unit (s := S1024x512) off S32x512.size inb).toLoadRect hl) k) Q := by
  have h1 : regSt m c (tA q) (own c q) = ptAny c (own c q) := by
    unfold regSt; rw [if_neg (not_avail_own c q), if_pos ⟨q, rfl⟩]
  obtain ⟨r, hr⟩ : ∃ r, own c q = .inl r := ⟨_, rfl⟩
  rw [hr] at h h1
  have hpeek := bigSep_peek (F := F) (.inl r) (fun r => regSt m c (tA q) r)
  rw [h1] at hpeek
  have h' : off = ![32 * r.val, 0] := h
  subst h' hn
  unfold Full
  iintro ⟨#HR, HS, HV, HG, HO⟩
  ihave HG := hpeek $$ HG
  icases HG with ⟨Hp, HG⟩
  unfold ptAny
  icases Hp with ⟨%f, Hp⟩
  iapply (load_own c r f) $$ Hp
  iintro Hp
  iapply (hk _)
  unfold Full
  isplitr; · iexact HR
  isplitl [HS]; · iexact HS
  isplitl [HV]; · iexact HV
  isplitl [HG Hp]
  · iapply HG; iexists f; iexact Hp
  iexact HO

/-- Storing the sum into an own chunk at its step. -/
theorem step_store (q : Fin 8) {n : ℕ} (hn : tA q = n) {α : Type} {Q : α → sProp 𝕄}
    {off : Fin 2 → ℕ} {inb : ∀ a, off a + S32x512.size a ≤ S1024x512.size a} (h : off = ![row (own c q), 0])
    {w : FVec F S32x512 .f32} (hw : w = val m (tag c (own c q)))
    {hx : (oM.access (Rect.unit (s := S1024x512) off S32x512.size inb)).Stores Finset.univ}
    {hm : Finset.univ = Finset.univ ∨ ∀ a, (Rect.unit (s := S1024x512) off S32x512.size inb).stride a = 1}
    {k : PUnit → Prog (TpuEff nD τ sig (Elt F) Λ₀ .tc) α}
    (hk : Full m K c (n + 1) ⊢ WP c (k ⟨⟩) Q) :
    Full m K c n ⊢ WP c (.op (.store oM (Rect.unit (s := S1024x512) off S32x512.size inb) w Finset.univ hx hm) k) Q := by
  have hadd := regs_add m c q
  obtain ⟨r, hr⟩ : ∃ r, own c q = .inl r := ⟨_, rfl⟩
  rw [hr] at h hadd hw
  have h' : off = ![32 * r.val, 0] := h
  subst h' hn hw
  unfold Full
  iintro ⟨#HR, HS, HV, HG, ⟨%W, HO⟩⟩
  ihave HG := hadd $$ HG
  icases HG with ⟨Hp, HG⟩
  unfold ptAny
  icases Hp with ⟨%f, Hp⟩
  iapply (store_own c r f) $$ Hp
  iintro Hp
  iapply hk
  unfold Full
  isplitr; · iexact HR
  isplitl [HS]
  · rw [← snds_same (F := F) c (tA q) fun i hi => ⟨sep_SA c i q hi, sep_VA c i q hi⟩]; iexact HS
  isplitl [HV]
  · rw [← rcvs_same (F := F) c (tA q) fun i hi => sep_RA c i q hi]; iexact HV
  isplitl [HG Hp]
  · iapply HG
    iapply (Entails.of_eq (pt_of_read m c (.inl r) fullShare _ (View.read_write_univ ..)))
    iexact Hp
  iexists W
  rw [← owedAt_step c (tA q) fun i hi => sep_SA c i q hi]; iexact HO

end Ops

end Cert.Kernel.Pf
-- ==== Proof.Run.Ops.lean ====
/-
# The kernel's operations as they are written

The kernel's operations with their addresses, devices and conditions, each agreeing with the plan (`StartOK` and so on,
decided for all devices at once). A guarded operation either happens, as planned, or the device has nothing to do at that
step.
-/
module

public import proofs.«01_k».proof.Proof.Run.State

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- The rest of a device's program runs and ends in `Q`. -/
def Goes (c : Dev nD) {α : Type} (k : Prog (TpuEff nD τ sig (Elt F) Λ₀ .tc) α) (Q : α → sProp 𝕄) : sProp 𝕄 := WP c k Q

/-- The end of a stretch of operations. -/
theorem op_ret {α : Type} {P : sProp 𝕄} {Q : α → sProp 𝕄} {v : α} (h : P ⊢ Q v) : P ⊢ Goes c (.ret v) Q := by
  unfold Goes WP
  rw [wp_ret]
  exact h.trans fupd_intro

/-- Starting the copy of argument rows to the z neighbour. -/
theorem op_zstart (n : ℕ) (j : J) {α : Type} {Q : α → sProp 𝕄} {k : PUnit → Prog (TpuEff nD τ sig (Elt F) Λ₀ .tc) α}
    (off : Dev nD → Fin 2 → ℕ) {off' : Fin 2 → ℕ} (dev : Dev nD → ℕ) {hdev : dev c < nD} {sS rS : DmaSem sig}
    {inb : ∀ a, off c a + S32x512.size a ≤ S1024x512.size a} {inb' : ∀ a, off' a + S32x512.size a ≤ S256x512.size a}
    {hsc : (zM.slice (Rect.unit (s := S256x512) off' S32x512.size inb') (fun _ => rfl)).view.ref.isScScratch = false}
    {h1 : (xM.slice (Rect.unit (s := S1024x512) (off c) S32x512.size inb) (fun _ => rfl)).view.WordExact}
    {h2 : (zM.slice (Rect.unit (s := S256x512) off' S32x512.size inb') (fun _ => rfl)).view.WordExact}
    {h3 : DmaTarget.Typed .vmem (.dma rS) (.remote (Dev.tc (⟨dev c, hdev⟩ : Dev nD) : Thread nD τ) (zM.slice (Rect.unit (s := S256x512) off' S32x512.size inb') (fun _ => rfl)) (.dma sS) hsc)}
    (ok : ZStartOK n j off off' dev) (hsS : sS = dsem false j) (hrS : rS = dsem true j)
    (hk : Full m K c (n + 1) ⊢ Goes c (k ⟨⟩) Q) :
    Full m K c n ⊢ Goes c (.op (.enqueueDma (xM.slice (Rect.unit (s := S1024x512) (off c) S32x512.size inb) (fun _ => rfl))
      (.remote (Dev.tc (⟨dev c, hdev⟩ : Dev nD) : Thread nD τ) (zM.slice (Rect.unit (s := S256x512) off' S32x512.size inb') (fun _ => rfl)) (.dma sS) hsc) (.dma rS) h1 h2 h3) k) Q := by
  obtain ⟨a1, a2, a3, a4, a5, a6, a7⟩ := ok c
  exact step_copy m K c j a1 a2 _ _ _ _ _ (ch_arg _ a3 _ _ a5) (ch_buf _ a4 _ _ a6) (Fin.ext a7) hsS hrS hk

/-- Starting a copy of result rows. -/
theorem op_start (n : ℕ) (j : J) {α : Type} {Q : α → sProp 𝕄} {k : PUnit → Prog (TpuEff nD τ sig (Elt F) Λ₀ .tc) α}
    (off : Dev nD → Fin 2 → ℕ) (dev : Dev nD → ℕ) {hdev : dev c < nD} {sS rS : DmaSem sig}
    {inb inb' : ∀ a, off c a + S32x512.size a ≤ S1024x512.size a}
    {hsc : (oM.slice (Rect.unit (s := S1024x512) (off c) S32x512.size inb') (fun _ => rfl)).view.ref.isScScratch = false}
    {h1 : (oM.slice (Rect.unit (s := S1024x512) (off c) S32x512.size inb) (fun _ => rfl)).view.WordExact}
    {h2 : (oM.slice (Rect.unit (s := S1024x512) (off c) S32x512.size inb') (fun _ => rfl)).view.WordExact}
    {h3 : DmaTarget.Typed .vmem (.dma rS) (.remote (Dev.tc (⟨dev c, hdev⟩ : Dev nD) : Thread nD τ) (oM.slice (Rect.unit (s := S1024x512) (off c) S32x512.size inb') (fun _ => rfl)) (.dma sS) hsc)}
    (ok : StartOK (fun _ => 1#1) n j off dev) (hsS : sS = dsem false j) (hrS : rS = dsem true j)
    (hk : Full m K c (n + 1) ⊢ Goes c (k ⟨⟩) Q) :
    Full m K c n ⊢ Goes c (.op (.enqueueDma (oM.slice (Rect.unit (s := S1024x512) (off c) S32x512.size inb) (fun _ => rfl))
      (.remote (Dev.tc (⟨dev c, hdev⟩ : Dev nD) : Thread nD τ) (oM.slice (Rect.unit (s := S1024x512) (off c) S32x512.size inb') (fun _ => rfl)) (.dma sS) hsc) (.dma rS) h1 h2 h3) k) Q := by
  have h := ok c
  rw [if_pos rfl] at h
  obtain ⟨a1, a2, a3, a4, a5, a6, a7⟩ := h
  exact step_copy m K c j a1 a2 _ _ _ _ _ (ch_out _ a3 _ _ a5) (ch_out _ a4 _ _ a6) (Fin.ext a7) hsS hrS hk

/-- Starting a copy of result rows on the devices where a condition holds. -/
theorem op_gstart (n : ℕ) (j : J) {α : Type} {Q : α → sProp 𝕄} {k : Prog (TpuEff nD τ sig (Elt F) Λ₀ .tc) α}
    (cond : Dev nD → BitVec 1) {dec : Decidable (cond c = 1#1)} (off : Dev nD → Fin 2 → ℕ) (dev : Dev nD → ℕ)
    {hdev : cond c = 1#1 → dev c < nD} {sS rS : DmaSem sig}
    {inb inb' : cond c = 1#1 → ∀ a, off c a + S32x512.size a ≤ S1024x512.size a}
    {hsc : ∀ h : cond c = 1#1, (oM.slice (Rect.unit (s := S1024x512) (off c) S32x512.size (inb' h)) (fun _ => rfl)).view.ref.isScScratch = false}
    {h1 : ∀ h : cond c = 1#1, (oM.slice (Rect.unit (s := S1024x512) (off c) S32x512.size (inb h)) (fun _ => rfl)).view.WordExact}
    {h2 : ∀ h : cond c = 1#1, (oM.slice (Rect.unit (s := S1024x512) (off c) S32x512.size (inb' h)) (fun _ => rfl)).view.WordExact}
    {h3 : ∀ h : cond c = 1#1, DmaTarget.Typed .vmem (.dma rS) (.remote (Dev.tc (⟨dev c, hdev h⟩ : Dev nD) : Thread nD τ) (oM.slice (Rect.unit (s := S1024x512) (off c) S32x512.size (inb' h)) (fun _ => rfl)) (.dma sS) (hsc h))}
    (ok : StartOK cond n j off dev) (hsS : sS = dsem false j) (hrS : rS = dsem true j)
    (hk : Full m K c (n + 1) ⊢ Goes c k Q) :
    Full m K c n ⊢ Goes c (dite (cond c = 1#1) (fun h => .op (.enqueueDma (oM.slice (Rect.unit (s := S1024x512) (off c) S32x512.size (inb h)) (fun _ => rfl))
      (.remote (Dev.tc (⟨dev c, hdev h⟩ : Dev nD) : Thread nD τ) (oM.slice (Rect.unit (s := S1024x512) (off c) S32x512.size (inb' h)) (fun _ => rfl)) (.dma sS) (hsc h)) (.dma rS) (h1 h) (h2 h) (h3 h)) (fun _ => k))
      (fun _ => k)) Q := by
  have h := ok c
  by_cases hc : cond c = 1#1
  · rw [if_pos hc] at h
    rw [dif_pos hc]
    obtain ⟨a1, a2, a3, a4, a5, a6, a7⟩ := h
    exact step_copy m K c j a1 a2 _ _ _ _ _ (ch_out _ a3 _ _ a5) (ch_out _ a4 _ _ a6) (Fin.ext a7) hsS hrS hk
  · rw [if_neg hc] at h
    rw [dif_neg hc, full_idle m K c n h]
    exact hk

/-- Waiting for an arrival. -/
theorem op_recv (n : ℕ) (j : J) {α : Type} {Q : α → sProp 𝕄} {k : PUnit → Prog (TpuEff nD τ sig (Elt F) Λ₀ .tc) α}
    {sp sp' : Space} {s s' : Shape} {e e' : EltTy} {sem : DmaSem sig} {src : Memref sig .tc sp' s' e'} {dst : Memref sig .tc sp s e}
    {h1 : src.view.WordExact} {h2 : dst.view.WordExact} (ok : RecvOK (fun _ => 1#1) n j) (hs : sem = dsem true j) (hN : dst.view.dmaCredit = N)
    (hk : Full m K c (n + 1) ⊢ Goes c (k ⟨⟩) Q) :
    Full m K c n ⊢ Goes c (.op (.waitDma2 sem src dst h1 h2) k) Q := by
  have h := ok c
  rw [if_pos rfl] at h
  exact step_recv m K c j h.1 h.2 hs hN hk

/-- Waiting for an arrival on the devices where a condition holds. -/
theorem op_grecv (n : ℕ) (j : J) {α : Type} {Q : α → sProp 𝕄} {k : Prog (TpuEff nD τ sig (Elt F) Λ₀ .tc) α}
    (cond : Dev nD → BitVec 1) {dec : Decidable (cond c = 1#1)}
    {sp sp' : Space} {s s' : Shape} {e e' : EltTy} {sem : DmaSem sig} {src : cond c = 1#1 → Memref sig .tc sp' s' e'} {dst : cond c = 1#1 → Memref sig .tc sp s e}
    {h1 : ∀ h, (src h).view.WordExact} {h2 : ∀ h, (dst h).view.WordExact} (ok : RecvOK cond n j) (hs : sem = dsem true j) (hN : ∀ h, (dst h).view.dmaCredit = N)
    (hk : Full m K c (n + 1) ⊢ Goes c k Q) :
    Full m K c n ⊢ Goes c (dite (cond c = 1#1) (fun h => .op (.waitDma2 sem (src h) (dst h) (h1 h) (h2 h)) (fun _ => k)) (fun _ => k)) Q := by
  have h := ok c
  by_cases hc : cond c = 1#1
  · rw [if_pos hc] at h
    rw [dif_pos hc]
    exact step_recv m K c j h.1 h.2 hs (hN hc) hk
  · rw [if_neg hc] at h
    rw [dif_neg hc, full_idle m K c n h]
    exact hk

/-- Waiting for the end of an own copy. -/
theorem op_send (n : ℕ) (j : J) {α : Type} {Q : α → sProp 𝕄} {k : PUnit → Prog (TpuEff nD τ sig (Elt F) Λ₀ .tc) α}
    {sp sp' : Space} {s s' : Shape} {e e' : EltTy} {sem : DmaSem sig} {src : Memref sig .tc sp' s' e'} {dst : Memref sig .tc sp s e}
    {h1 : src.view.WordExact} {h2 : dst.view.WordExact} (ok : SendOK (fun _ => 1#1) n j) (hs : sem = dsem false j) (hN : dst.view.dmaCredit = N)
    (hk : Full m K c (n + 1) ⊢ Goes c (k ⟨⟩) Q) :
    Full m K c n ⊢ Goes c (.op (.waitDma2 sem src dst h1 h2) k) Q := by
  have h := ok c
  rw [if_pos rfl] at h
  exact step_send m K c j h.1 h.2 hs hN hk

/-- Waiting for the end of an own copy on the devices where a condition holds. -/
theorem op_gsend (n : ℕ) (j : J) {α : Type} {Q : α → sProp 𝕄} {k : Prog (TpuEff nD τ sig (Elt F) Λ₀ .tc) α}
    (cond : Dev nD → BitVec 1) {dec : Decidable (cond c = 1#1)}
    {sp sp' : Space} {s s' : Shape} {e e' : EltTy} {sem : DmaSem sig} {src : cond c = 1#1 → Memref sig .tc sp' s' e'} {dst : cond c = 1#1 → Memref sig .tc sp s e}
    {h1 : ∀ h, (src h).view.WordExact} {h2 : ∀ h, (dst h).view.WordExact} (ok : SendOK cond n j) (hs : sem = dsem false j) (hN : ∀ h, (dst h).view.dmaCredit = N)
    (hk : Full m K c (n + 1) ⊢ Goes c k Q) :
    Full m K c n ⊢ Goes c (dite (cond c = 1#1) (fun h => .op (.waitDma2 sem (src h) (dst h) (h1 h) (h2 h)) (fun _ => k)) (fun _ => k)) Q := by
  have h := ok c
  by_cases hc : cond c = 1#1
  · rw [if_pos hc] at h
    rw [dif_pos hc]
    exact step_send m K c j h.1 h.2 hs (hN hc) hk
  · rw [if_neg hc] at h
    rw [dif_neg hc, full_idle m K c n h]
    exact hk

/-! ## Adding chunk `q` of the own quarter -/

/-- The sum's two parts and the sum, by their final values. -/
theorem val_ownX (q : Fin 8) : val m (tag c (ownX c q)) = xv m c ⟨(8 * qo c + q.val) % 32, Nat.mod_lt _ (by decide)⟩ := rfl
theorem val_buf (q : Fin 8) : val m (tag c (.inr (.inr q))) = xv m (zp c) ⟨(8 * qo c + q.val) % 32, Nat.mod_lt _ (by decide)⟩ := rfl
theorem val_own (q : Fin 8) : val m (tag c (own c q)) = k0_pay1 (val m (tag c (ownX c q))) (val m (tag c (.inr (.inr q)))) := by
  rw [tag_own c q]; rfl

/-- Loading the own rows of chunk `q` of the argument, -/
theorem op_load_arg (n : ℕ) (q : Fin 8) {α : Type} {Q : α → sProp 𝕄} (off : Dev nD → Fin 2 → ℕ)
    {inb : ∀ a, off c a + S32x512.size a ≤ S1024x512.size a}
    {hl : xM.view.LoadsAt (Rect.unit (s := S1024x512) (off c) S32x512.size inb).toLoadRect}
    {k : ((Rect.unit (s := S1024x512) (off c) S32x512.size inb).shape.Idx → Elt F .f32) → Prog (TpuEff nD τ sig (Elt F) Λ₀ .tc) α}
    (ok : AddOK q off ![32 * q.val, 0]) (hk : Full m K c n ⊢ Goes c (k (val m (tag c (ownX c q)))) Q) :
    Full m K c n ⊢ Goes c (.op (.load xM (Rect.unit (s := S1024x512) (off c) S32x512.size inb).toLoadRect hl) k) Q :=
  step_load_arg m K c (ownX c q) rfl (ok c).2.1 hk

/-- the z neighbour's, -/
theorem op_load_buf (n : ℕ) (q : Fin 8) {α : Type} {Q : α → sProp 𝕄} {off' : Fin 2 → ℕ}
    {inb : ∀ a, off' a + S32x512.size a ≤ S256x512.size a}
    {hl : zM.view.LoadsAt (Rect.unit (s := S256x512) off' S32x512.size inb).toLoadRect}
    {k : ((Rect.unit (s := S256x512) off' S32x512.size inb).shape.Idx → Elt F .f32) → Prog (TpuEff nD τ sig (Elt F) Λ₀ .tc) α}
    (hn : tA q = n) (ok : off' = ![32 * q.val, 0]) (hk : Full m K c n ⊢ Goes c (k (val m (tag c (.inr (.inr q))))) Q) :
    Full m K c n ⊢ Goes c (.op (.load zM (Rect.unit (s := S256x512) off' S32x512.size inb).toLoadRect hl) k) Q :=
  step_load_buf m K c q hn ok hk

/-- the rows of the result about to be overwritten, -/
theorem op_load_own (n : ℕ) (q : Fin 8) {α : Type} {Q : α → sProp 𝕄} (off : Dev nD → Fin 2 → ℕ)
    {inb : ∀ a, off c a + S32x512.size a ≤ S1024x512.size a}
    {hl : oM.view.LoadsAt (Rect.unit (s := S1024x512) (off c) S32x512.size inb).toLoadRect}
    {k : ((Rect.unit (s := S1024x512) (off c) S32x512.size inb).shape.Idx → Elt F .f32) → Prog (TpuEff nD τ sig (Elt F) Λ₀ .tc) α}
    (hn : tA q = n) (ok : AddOK q off ![32 * q.val, 0]) (hk : ∀ v, Full m K c n ⊢ Goes c (k v) Q) :
    Full m K c n ⊢ Goes c (.op (.load oM (Rect.unit (s := S1024x512) (off c) S32x512.size inb).toLoadRect hl) k) Q :=
  step_load_own m K c q hn (ok c).1 hk

/-- and storing the sum. -/
theorem op_store (n : ℕ) (q : Fin 8) {α : Type} {Q : α → sProp 𝕄} (off : Dev nD → Fin 2 → ℕ)
    {inb : ∀ a, off c a + S32x512.size a ≤ S1024x512.size a} {w : FVec F S32x512 .f32}
    {hx : (oM.access (Rect.unit (s := S1024x512) (off c) S32x512.size inb)).Stores Finset.univ}
    {hm : Finset.univ = Finset.univ ∨ ∀ a, (Rect.unit (s := S1024x512) (off c) S32x512.size inb).stride a = 1}
    {k : PUnit → Prog (TpuEff nD τ sig (Elt F) Λ₀ .tc) α}
    (hn : tA q = n) (ok : AddOK q off ![32 * q.val, 0]) (hw : w = k0_pay1 (val m (tag c (ownX c q))) (val m (tag c (.inr (.inr q)))))
    (hk : Full m K c (n + 1) ⊢ Goes c (k ⟨⟩) Q) :
    Full m K c n ⊢ Goes c (.op (.store oM (Rect.unit (s := S1024x512) (off c) S32x512.size inb) w Finset.univ hx hm) k) Q :=
  step_store m K c q hn (ok c).1 (hw.trans (val_own m c q).symm) hk

attribute [irreducible] Goes

end Cert.Kernel.Pf
-- ==== Proof.Run.Entry.lean ====
/-
# The entry: the handshake of the three neighbours

Before any copy, every device signals the barrier of each of its neighbours and waits for three signals on its own. With its
signal along an axis a device hands the neighbour the right to fill the rows that the neighbour's copies along that axis
will fill. After the wait a device holds all it needs to start its copies.
-/
module

public import proofs.«01_k».proof.Proof.Run.Ops

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-! ## Programs one after the other -/

/-- A stretch of text, then the rest. -/
theorem op_bind {α β : Type} {P : sProp 𝕄} {p : Prog (TpuEff nD τ sig (Elt F) Λ₀ .tc) α} {k : α → Prog (TpuEff nD τ sig (Elt F) Λ₀ .tc) β} {Q : β → sProp 𝕄}
    (h : P ⊢ Goes c p fun a => Goes c (k a) Q) : P ⊢ Goes c (p >>= k) Q := by
  unfold Goes WP at h ⊢
  rw [wp_bind]
  exact h

/-- What a stretch of text does not use stays. -/
theorem op_frame {α : Type} {P R : sProp 𝕄} {p : Prog (TpuEff nD τ sig (Elt F) Λ₀ .tc) α} {Q : α → sProp 𝕄}
    (h : P ⊢ Goes c p fun a => iprop(R -∗ Q a)) : iprop(R ∗ P) ⊢ Goes c p Q := by
  unfold Goes WP at h ⊢
  refine (sep_mono_right h).trans ((wp_frame_l _ _ _).trans (wp_mono _ _ _ fun a => ?_))
  iintro ⟨HR, H⟩
  iapply H; iexact HR

/-- Asking for the device's number. -/
theorem op_device {α : Type} {P : sProp 𝕄} {k : Dev nD → Prog (TpuEff nD τ sig (Elt F) Λ₀ .tc) α} {Q : α → sProp 𝕄}
    (h : P ⊢ Goes c (k c) Q) : P ⊢ Goes c (.op .deviceId k) Q := by
  unfold Goes WP at h ⊢
  rw [wp_deviceId]
  exact h

/-- The signal to the neighbour along axis `a`. -/
theorem op_signal (a : D) {α : Type} {R : sProp 𝕄} {Q : α → sProp 𝕄} {k : PUnit → Prog (TpuEff nD τ sig (Elt F) Λ₀ .tc) α}
    (O O' : CellTallies nD τ sig Unit) (hO : O = O' + tallyAt (barCell (nb a c)) () 1) (W : Waits sig Unit)
    {dst : Dev nD} (hd : dst = nb a c) {sem : Sem sig} (hs : sem = barS) {n : ℤ} (hn : n = 1)
    (hk : iprop(recs m K ∗ owes (c : Thread nD τ) O' W ∗ R) ⊢ Goes c (k ⟨⟩) Q) :
    iprop(recs m K ∗ owes (c : Thread nD τ) O W ∗ (dutyTok ER (barCell (nb a c)) 0 a ∗ barPay (nb a c) a) ∗ R)
      ⊢ Goes c (.op (.semSignal (dst, .tc) sem n) k) Q := by
  subst hd hs hn hO
  have h1 : a ∈ (Rd (F := F) m).duties (barCell (nb a c)) 0 := by rw [duties_bar]; exact Finset.mem_univ _
  have h2 : (Rd (F := F) m).payload ((nb a c : Thread nD τ), SemLoc.reg barS) 0 a = barPay (nb a c) a := rfl
  have h3 : recs m K ⊢ (cellInv ER (Rd m) (K (nb a c, none)) ((nb a c : Thread nD τ), SemLoc.reg barS) : sProp 𝕄) := recs_inv m K (nb a c, none)
  have h4 : recs m K ⊢ (reached ER ((nb a c : Thread nD τ), SemLoc.reg barS) 0 : sProp 𝕄) := recs_reached m K (nb a c, none)
  unfold Goes WP at hk ⊢
  iintro ⟨#HI, HO, ⟨Ht, Hp⟩, HR⟩
  iapply (Rounds.wp_signal 𝒱₀ ER (Rd m) (c : Thread nD τ) none (dst := (nb a c : Thread nD τ)) (κ := K (nb a c, none))
      (d := a) h1 ((amount_bar m (nb a c) a).trans (by decide)) () O' rfl)
    $$ [HO Ht Hp]
  · isplitr; · iapply h3; iexact HI
    isplitl [HO]; · iexact HO
    isplitl [Ht]; · iexact Ht
    isplitl [Hp]; · rw [h2]; iexact Hp
    iapply h4; iexact HI
  iintro HO
  iapply hk
  isplitr; · iexact HI
  isplitl [HO] <;> iassumption

/-- The wait for the three neighbours. -/
theorem op_gather {α : Type} {R : sProp 𝕄} {Q : α → sProp 𝕄} {k : PUnit → Prog (TpuEff nD τ sig (Elt F) Λ₀ .tc) α}
    (W : Waits sig Unit) {sem : Sem sig} (hs : sem = barS) {n : ℤ} (hn : n = 3)
    (hk : iprop(recs m K ∗ (∃ W, owes (c : Thread nD τ) (owedAt c 0) W) ∗ atPos ER (barCell c) 1 ∅ 0 ∗ (bigSep Finset.univ fun a : D => barPay c a) ∗ R) ⊢ Goes c (k ⟨⟩) Q) :
    iprop(recs m K ∗ owes (c : Thread nD τ) (owedAt c 0) W ∗ (atPos ER (barCell c) 0 ∅ 0 ∗ cred (tallyAt (barCell c) () 3)) ∗ R)
      ⊢ Goes c (.op (.semWait sem n) k) Q := by
  subst hs hn
  have h1 : 0 + 3 = (Rd (F := F) m).expect (barCell c) 0 := by rw [expect_bar]
  have h2 : bigSep ((Rd (F := F) m).duties ((c : Thread nD τ), SemLoc.reg barS) 0 \ ∅) (fun d => (Rd (F := F) m).payload ((c : Thread nD τ), SemLoc.reg barS) 0 d)
      = bigSep Finset.univ fun d : D => barPay c d := rest_bar m c
  have h3 : recs m K ⊢ (cellInv ER (Rd m) (K (c, none)) ((c : Thread nD τ), SemLoc.reg barS) : sProp 𝕄) := recs_inv m K (c, none)
  unfold Goes WP at hk ⊢
  iintro ⟨#HI, HO, ⟨Hat, Hc⟩, HR⟩
  iapply (Rounds.wp_wait_rest_token 𝒱₀ ER (Rd m) (c : Thread nD τ) none (κ := K (c, none))
      (wpE_semWait_eq 𝒱₀ (c : Thread nD τ) none Set.univ) (Set.mem_univ _) () (O := owedAt c 0) (W := W) (R := 0) (m := 0) (T := ∅)
      h1) $$ [Hc HO Hat]
  · isplitr; · iapply h3; iexact HI
    isplitl [Hc]; · iexact Hc
    isplitl [HO]; · iexact HO
    isplitr; · iapply (mayWait_bar c); iapply (recs_lev m K); iexact HI
    iexact Hat
  iintro ⟨HO, Hat, -, Hpay⟩
  ihave Hp := (Entails.of_eq h2) $$ Hpay
  iapply hk
  isplitr; · iexact HI
  isplitl [HO]; · iexists _; iexact HO
  isplitl [Hat]; · iexact Hat
  isplitl [Hp] <;> iassumption

/-! ## The rights handed over -/

omit [FloatOps F] in
/-- A family over the copies made, sorted by axis. -/
theorem by_axis (Φ : J → sProp 𝕄) :
    (bigSep Finset.univ fun j : J => if used c j = true then Φ j else iprop(emp))
      = bigSep Finset.univ fun a : D => bigSep Finset.univ fun j : J => if used c j = true ∧ ax j = a then Φ j else iprop(emp) := by
  rw [bigSep_univ_comm]
  refine bigSep_congr fun j _ => ?_
  have hrest : (bigSep (Finset.univ.erase (ax j)) fun a : D => if used c j = true ∧ ax j = a then Φ j else iprop(emp)) = (iprop(emp) : sProp 𝕄) :=
    (bigSep_congr fun a ha => if_neg fun h => Finset.ne_of_mem_erase ha h.2.symm).trans (bigSep_emp_const _)
  have he (P : sProp 𝕄) : iprop(P ∗ emp) = P := equiv_iff.mp BI.sep_emp
  rw [bigSep_univ_at _ (ax j), hrest, he]
  exact if_congr ⟨fun h => ⟨h, rfl⟩, fun h => h.1⟩ rfl rfl

omit [FloatOps F] in
/-- What a device hands its three neighbours is its rows that copies fill. -/
theorem give_rights :
    (bigSep Finset.univ fun j : J => if used c j = true then ptAny (F := F) c (dr c j) else iprop(emp))
      = bigSep Finset.univ fun a : D => barPay (nb a c) a := by
  rw [by_axis c]
  refine bigSep_congr fun a _ => ?_
  unfold barPay
  refine bigSep_congr fun j _ => ?_
  by_cases h2 : ax j = a
  · subst h2
    have e1 : pr j (nb (ax j) c) = c := nb_nb (ax j) c
    have e2 : used (nb (ax j) c) j = used c j := used_pr c j
    rw [e1, e2]
  · rw [if_neg fun h => h2 h.2, if_neg fun h => h2 h.2]

omit [FloatOps F] in
/-- What its three neighbours hand a device is the right to fill the rows its copies fill. -/
theorem get_rights :
    (bigSep Finset.univ fun a : D => barPay (F := F) c a)
      = bigSep Finset.univ fun j : J => if used c j = true then ptAny (pr j c) (dr (pr j c) j) else iprop(emp) := by
  rw [by_axis c]; rfl

/-! ## The start -/

/-- The sending end of a copy, before the right to fill the rows is there. -/
def sndPre (j : J) : sProp 𝕄 :=
  iprop(atPos ER (sCell c j) 0 ∅ 0
    ∗ (if used c j = true then iprop(dutyTok ER (sCell c j) 0 (0 : D) ∗ dutyTok ER (rCell (pr j c) j) 0 (0 : D)) else iprop(emp)))

omit [FloatOps F] in
/-- With the right to fill the rows, the sending end of a copy is ready. -/
theorem snd_ready (j : J) :
    iprop(sndPre (F := F) c j ∗ if used c j = true then ptAny (F := F) (pr j c) (dr (pr j c) j) else iprop(emp)) ⊢ sndSt c 0 j := by
  unfold sndPre sndSt
  by_cases h : used c j = true
  · rw [if_pos h, if_pos h, if_pos h, if_pos (Nat.zero_le _)]
    iintro ⟨⟨H1, H2, H3⟩, H4⟩
    isplitl [H1]; · iexact H1
    isplitl [H2]; · iexact H2
    isplitl [H3] <;> iassumption
  · rw [if_neg h, if_neg h, if_neg h]
    iintro ⟨⟨H1, -⟩, -⟩
    iexact H1

omit [FloatOps F] in
/-- So are all of them. -/
theorem snds_ready :
    iprop((bigSep Finset.univ fun j : J => sndPre (F := F) c j)
        ∗ bigSep Finset.univ fun j : J => if used c j = true then ptAny (F := F) (pr j c) (dr (pr j c) j) else iprop(emp))
      ⊢ bigSep Finset.univ fun j : J => sndSt c 0 j := by
  rw [← bigSep_sep']
  exact bigSep_mono fun j _ => snd_ready c j

/-- A chunk at launch: the argument's are there, the others hold anything. -/
def startSt (r : Reg) : sProp 𝕄 := if (∃ i, r = .inr (.inl i)) then ptv m c r fullShare else ptAny c r

theorem avail_start : ∀ (c : Fin 8) (r : Reg), avail c 0 r → ∃ i, r = .inr (.inl i) := by decide +kernel
theorem fill_not_x : ∀ (c : Fin 8) (r : Reg), (∃ i, r = .inr (.inl i)) → ¬ ∃ j, used c j = true ∧ dr c j = r := by decide +kernel
theorem fill_not_own : ∀ (c : Fin 8) (r : Reg), (∃ k, own c k = r) → ¬ ∃ j, used c j = true ∧ dr c j = r := by decide +kernel
theorem lent_start (c : Fin 8) (r : Reg) (b : Bool) : ¬ lent c 0 r b := by
  rintro ⟨j, -, -, -, h, -⟩
  exact Nat.not_lt_zero _ h

/-- At launch a device parts with a chunk that a copy fills, and keeps the others. -/
theorem reg_start (r : Reg) :
    startSt m c r ⊢ iprop(regSt m c 0 r ∗ if (∃ j, used c j = true ∧ dr c j = r) then ptAny (F := F) c r else iprop(emp)) := by
  unfold startSt regSt
  by_cases hx : ∃ i, r = Sum.inr (Sum.inl i)
  · rw [if_pos hx, if_pos (show avail c 0 r from Or.inl hx), if_neg (fill_not_x c r hx)]
    unfold halfSt
    rw [if_neg (lent_start c r _), if_neg (lent_start c r _)]
    iintro H
    isplitl
    · iapply (ptv_halves m c r).1; iexact H
    · iempintro
  · rw [if_neg hx, if_neg fun h => hx (avail_start c r h)]
    by_cases ho : ∃ k, Plan.own c k = r
    · rw [if_pos ho, if_neg (fill_not_own c r ho)]
      iintro H
      isplitl; · iexact H
      iempintro
    · have hf : ∃ j, used c j = true ∧ dr c j = r := (reg_cases c r).elim (fun h => absurd h hx) fun h => h.elim id fun h => absurd h ho
      rw [if_neg ho, if_pos hf]
      iintro H
      isplitr; · iempintro
      iexact H

/-- So for all chunks at once. -/
theorem regs_start :
    (bigSep Finset.univ fun r : Reg => startSt m c r)
      ⊢ iprop((bigSep Finset.univ fun r : Reg => regSt m c 0 r) ∗ bigSep Finset.univ fun j : J => if used c j = true then ptAny (F := F) c (dr c j) else iprop(emp)) := by
  have hset : (Finset.univ.filter fun r : Reg => ∃ j, used c j = true ∧ dr c j = r) = (Finset.univ.filter fun j : J => used c j = true).image (dr c) := by
    ext r
    simp only [Finset.mem_filter, Finset.mem_univ, true_and, Finset.mem_image]
  have hsum : (bigSep Finset.univ fun j : J => if used c j = true then ptAny (F := F) c (dr c j) else iprop(emp))
      = bigSep Finset.univ fun r : Reg => if (∃ j, used c j = true ∧ dr c j = r) then ptAny (F := F) c r else iprop(emp) := by
    have e1 := bigSep_filter Finset.univ (fun j : J => used c j = true) (fun j => ptAny (F := F) c (dr c j))
    have e2 := bigSep_filter Finset.univ (fun r : Reg => ∃ j, used c j = true ∧ dr c j = r) (fun r => ptAny (F := F) c r)
    refine e1.symm.trans (Eq.trans ?_ e2)
    rw [hset, bigSep_image_of_injOn fun i hi j hj e => dr_inj c i j (Finset.mem_filter.mp hi).2 (Finset.mem_filter.mp hj).2 e]
  rw [hsum, ← bigSep_sep']
  exact bigSep_mono fun r _ => reg_start m c r

/-- All that device `c` holds when its kernel starts. -/
def Gate : sProp 𝕄 :=
  iprop(recs m K ∗ (∃ W, owes (c : Thread nD τ) (O₀ c) W) ∗ (atPos ER (barCell c) 0 ∅ 0 ∗ cred (tallyAt (barCell c) () 3))
    ∗ (bigSep Finset.univ fun a : D => dutyTok ER (barCell (nb a c)) 0 a)
    ∗ (bigSep Finset.univ fun j : J => sndPre c j) ∗ (bigSep Finset.univ fun j : J => rcvSt c 0 j)
    ∗ bigSep Finset.univ fun r : Reg => startSt m c r)

/-- What is not used by the handshake. -/
def Rest : sProp 𝕄 :=
  iprop((bigSep Finset.univ fun j : J => sndPre c j) ∗ (bigSep Finset.univ fun j : J => rcvSt c 0 j) ∗ bigSep Finset.univ fun r : Reg => regSt m c 0 r)

/-- After the first signal. -/
def Gate1 : sProp 𝕄 :=
  iprop(∃ W, recs m K ∗ owes (c : Thread nD τ) (O₂ c) W
    ∗ (dutyTok ER (barCell (nb 1 c)) 0 (1 : D) ∗ barPay (nb 1 c) 1)
    ∗ (dutyTok ER (barCell (nb 2 c)) 0 (2 : D) ∗ barPay (nb 2 c) 2)
    ∗ (atPos ER (barCell c) 0 ∅ 0 ∗ cred (tallyAt (barCell c) () 3)) ∗ Rest m c)

omit [FloatOps F] in
/-- One member per axis. -/
theorem over_axes (Φ : D → sProp 𝕄) : bigSep Finset.univ Φ = iprop(Φ 0 ∗ Φ 1 ∗ Φ 2) :=
  bigSep_univ_eq_bigSepL [0, 1, 2] (by decide) (by decide) Φ

theorem dev1_eq : ∀ c : Fin 8, k0_dev1 c = (nb 0 c).val := by decide +kernel
theorem dev2_eq : ∀ c : Fin 8, k0_dev2 c = (nb 1 c).val := by decide +kernel
theorem dev3_eq : ∀ c : Fin 8, k0_dev3 c = (nb 2 c).val := by decide +kernel

/-- The first signal. -/
theorem part1_run {Q : _ → sProp 𝕄} {h0 h1 h2}
    (hk : ∀ v2 v5 v8 v10 v13 v16 v17 v18 v19 v20 v21 v23 v24 v, Gate1 m K c ⊢ Q ⟨c, v2, v5, v8, v10, v13, v16, v17, v18, v19, v20, v21, v23, v24, SemArray.scalar (sig.barrier 0 rfl), v⟩) :
    Gate m K c ⊢ Goes c (k0_part1 xM h0 oM h1 zM h2 cc0_scratch1 cc0_scratch2 cc0_scratch3 cc0_scratch4 cc0_scratch5 cc0_scratch6) Q := by
  simp only [k0_part1_eq_skeleton]; unfold k0_part1_skel
  simp only [semSignalWord, Prog.lift, Prog.bind_op, Prog.bind_ret, Prog.pure_eq_ret]
  refine op_device c ?_
  unfold Gate
  iintro ⟨#HI, ⟨%W, HO⟩, Hbar, Htok, Hs, Hr, Hreg⟩
  ihave Hreg := (regs_start m c) $$ Hreg
  icases Hreg with ⟨Hreg, Hgive⟩
  ihave Hgive := (Entails.of_eq ((give_rights (F := F) c).trans (over_axes _))) $$ Hgive
  ihave Htok := (Entails.of_eq (over_axes (F := F) fun a : D => dutyTok ER (barCell (nb a c)) 0 a)) $$ Htok
  icases Hgive with ⟨G0, G1, G2⟩
  icases Htok with ⟨T0, T1, T2⟩
  iapply (op_signal m K c 0 (R := iprop((dutyTok ER (barCell (nb 1 c)) 0 (1 : D) ∗ barPay (nb 1 c) 1)
    ∗ (dutyTok ER (barCell (nb 2 c)) 0 (2 : D) ∗ barPay (nb 2 c) 2)
    ∗ (atPos ER (barCell c) 0 ∅ 0 ∗ cred (tallyAt (barCell c) () 3)) ∗ Rest m c)) (O₀ c) (O₂ c) rfl W (Fin.ext (dev1_eq c)) rfl rfl ?_)
    $$ [HO T0 T1 T2 G0 G1 G2 Hbar Hs Hr Hreg]
  · refine op_ret c (BIBase.Entails.trans ?_ (hk _ _ _ _ _ _ _ _ _ _ _ _ _ _))
    unfold Gate1
    iintro H
    iexists W
    iexact H
  · isplitr; · iexact HI
    isplitl [HO]; · iexact HO
    isplitl [T0 G0]; · isplitl [T0] <;> iassumption
    isplitl [T1 G1]; · isplitl [T1] <;> iassumption
    isplitl [T2 G2]; · isplitl [T2] <;> iassumption
    isplitl [Hbar]; · iexact Hbar
    unfold Rest
    isplitl [Hs]; · iexact Hs
    isplitl [Hr] <;> iassumption

/-- The other two signals, the wait, and the first copy. -/
theorem part2_run {Q : _ → sProp 𝕄} {h0 h1 h2} (v2 v5 v8 v10 v13 v16 v17 v18 v19 v) (hk : ∀ v, iprop(atPos ER (barCell c) 1 ∅ 0 ∗ Full m K c 1) ⊢ Q v) :
    Gate1 m K c ⊢ Goes c (k0_part2 xM h0 oM h1 zM h2 cc0_scratch1 cc0_scratch2 cc0_scratch3 cc0_scratch4 cc0_scratch5 cc0_scratch6
      c v2 v5 v8 v10 v13 v16 v17 v18 v19 (SemArray.scalar (sig.barrier 0 rfl)) v) Q := by
  simp only [k0_part2_eq_skeleton]; unfold k0_part2_skel
  simp only [semSignalWord, semWaitWord, Prog.lift, Prog.bind_op, Prog.bind_ret, Prog.pure_eq_ret]
  unfold Gate1
  iintro ⟨%W, H⟩
  iapply (op_signal m K c 1 (O₂ c) (O₁ c) rfl W (Fin.ext (dev2_eq c)) rfl rfl ?_) $$ H
  refine op_signal m K c 2 (O₁ c) (owedAt c 0) rfl W (Fin.ext (dev3_eq c)) rfl rfl ?_
  refine op_gather m K c W rfl rfl ?_
  refine BIBase.Entails.trans (?_ : _ ⊢ iprop(atPos ER (barCell c) 1 ∅ 0 ∗ Full m K c 0)) (op_frame c
    (op_zstart m K c _ 0 (fun c => k0_off1 c 0#32) k0_dev4 (by decide +kernel) rfl rfl (op_ret c ?_)))
  · unfold Full Rest
    iintro ⟨#HI, HO, Hat, Hp, Hs, Hr, Hreg⟩
    ihave Hp := (Entails.of_eq (get_rights (F := F) c)) $$ Hp
    isplitl [Hat]; · iexact Hat
    isplitr; · iexact HI
    isplitl [Hs Hp]
    · iapply (snds_ready (F := F) c)
      isplitl [Hs] <;> iassumption
    isplitl [Hr]; · iexact Hr
    isplitl [Hreg] <;> iassumption
  · exact BI.wand_intro (BI.Entails.trans sep_comm (hk _))

end Cert.Kernel.Pf
-- ==== Proof.Run.Adds.lean ====
/-
# The sums: first part of the kernel's text

The stretches of the kernel's text in order: sending the argument rows to the z neighbour, and for each of the eight chunks of
the own quarter waiting for the z neighbour's rows, adding, and starting the copies along x and y. Each stretch takes a
device from one step of the plan to a later one.
-/
module

public import proofs.«01_k».proof.Proof.Run.Ops

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- Sending argument chunks 1 and 2. -/
theorem part3_run {Q : PUnit → sProp 𝕄} {h0 h1 h2} (v2 v5 v17 v44 c4) (hk : Full m K c 3 ⊢ Q ⟨⟩) :
    Full m K c 1 ⊢ Goes c (k0_part3 xM h0 oM h1 zM h2 cc0_scratch1 cc0_scratch2 cc0_scratch3 cc0_scratch4 cc0_scratch5
      cc0_scratch6 c v2 v5 v17 v44 c4) Q := by
  simp only [k0_part3_eq_skeleton]; unfold k0_part3_skel
  simp only [Prog.lift, Prog.bind_op, Prog.bind_ret, Prog.pure_eq_ret]
  refine op_zstart m K c _ 1 (fun c => k0_off1 c 32#32) k0_dev5 (by decide +kernel) rfl rfl ?_
  refine op_zstart m K c _ 2 (fun c => k0_off1 c 64#32) k0_dev6 (by decide +kernel) rfl rfl ?_
  exact op_ret c hk

/-- Sending argument chunks 3, 4 and 5. -/
theorem part4_run {Q : BitVec 32 → sProp 𝕄} {h0 h1 h2} (v2 v5 v17 v44) (hk : ∀ v, Full m K c 6 ⊢ Q v) :
    Full m K c 3 ⊢ Goes c (k0_part4 xM h0 oM h1 zM h2 cc0_scratch1 cc0_scratch2 cc0_scratch3 cc0_scratch4 cc0_scratch5
      cc0_scratch6 c v2 v5 v17 v44) Q := by
  simp only [k0_part4_eq_skeleton]; unfold k0_part4_skel
  simp only [Prog.lift, Prog.bind_op, Prog.bind_ret, Prog.pure_eq_ret]
  refine op_zstart m K c _ 3 (fun c => k0_off1 c 96#32) k0_dev7 (by decide +kernel) rfl rfl ?_
  refine op_zstart m K c _ 4 (fun c => k0_off1 c 128#32) k0_dev8 (by decide +kernel) rfl rfl ?_
  refine op_zstart m K c _ 5 (fun c => k0_off1 c 160#32) k0_dev9 (by decide +kernel) rfl rfl ?_
  exact op_ret c (hk _)

/-- Sending argument chunks 6 and 7. -/
theorem part5_run {Q : (Σ' (_ : BitVec 32), BitVec 32) → sProp 𝕄} {h0 h1 h2} (v2 v5 v17 v23 v24 v44 v45 v46 c4) (hk : ∀ v, Full m K c 8 ⊢ Q v) :
    Full m K c 6 ⊢ Goes c (k0_part5 xM h0 oM h1 zM h2 cc0_scratch1 cc0_scratch2 cc0_scratch3 cc0_scratch4 cc0_scratch5
      cc0_scratch6 c v2 v5 v17 v23 v24 v44 v45 v46 c4) Q := by
  simp only [k0_part5_eq_skeleton]; unfold k0_part5_skel
  simp only [Prog.lift, Prog.bind_op, Prog.bind_ret, Prog.pure_eq_ret]
  refine op_zstart m K c _ 6 (fun c => k0_off1 c 192#32) k0_dev10 (by decide +kernel) rfl rfl ?_
  refine op_zstart m K c _ 7 (fun c => k0_off1 c 224#32) k0_dev11 (by decide +kernel) rfl rfl ?_
  exact op_ret c (hk _)

/-- Chunk 0. -/
theorem part6_run {Q : PUnit → sProp 𝕄} {h0 h1 h2} (v2 v5 v8 v17 v18 v19 v20 v21 v44 v158 v159) (hk : Full m K c 12 ⊢ Q ⟨⟩) :
    Full m K c 8 ⊢ Goes c (k0_part6 xM h0 oM h1 zM h2 cc0_scratch1 cc0_scratch2 cc0_scratch3 cc0_scratch4 cc0_scratch5
      cc0_scratch6 c v2 v5 v8 v17 v18 v19 v20 v21 v44 v158 v159) Q := by
  simp only [k0_part6_eq_skeleton]; unfold k0_part6_skel
  simp only [Prog.lift, Prog.bind_op, Prog.bind_ret, Prog.pure_eq_ret]
  refine op_recv m K c _ 0 (by decide +kernel) rfl rfl ?_
  refine op_load_arg m K c _ 0 (fun c => k0_off2 c 0#32) (by decide +kernel) ?_
  refine op_load_buf m K c _ 0 rfl rfl ?_
  refine op_load_own m K c _ 0 (fun c => k0_off2 c 0#32) rfl (by decide +kernel) fun v => ?_
  refine op_store m K c _ 0 (fun c => k0_off2 c 0#32) rfl (by decide +kernel) rfl ?_
  refine op_gstart m K c _ 10 k0_cond1 k0_off3 k0_dev12 (by decide +kernel) rfl rfl ?_
  refine op_gstart m K c _ 24 k0_cond2 k0_off4 k0_dev13 (by decide +kernel) rfl rfl ?_
  exact op_ret c hk

/-- Chunk 1. -/
theorem part7_run {Q : PUnit → sProp 𝕄} {h0 h1 h2} (v2 v5 v8 v17 v18 v19 v20 v21 v44) (hk : Full m K c 16 ⊢ Q ⟨⟩) :
    Full m K c 12 ⊢ Goes c (k0_part7 xM h0 oM h1 zM h2 cc0_scratch1 cc0_scratch2 cc0_scratch3 cc0_scratch4 cc0_scratch5
      cc0_scratch6 c v2 v5 v8 v17 v18 v19 v20 v21 v44) Q := by
  simp only [k0_part7_eq_skeleton]; unfold k0_part7_skel
  simp only [Prog.lift, Prog.bind_op, Prog.bind_ret, Prog.pure_eq_ret]
  refine op_recv m K c _ 1 (by decide +kernel) rfl rfl ?_
  refine op_load_arg m K c _ 1 (fun c => k0_off2 c 32#32) (by decide +kernel) ?_
  refine op_load_buf m K c _ 1 rfl rfl ?_
  refine op_load_own m K c _ 1 (fun c => k0_off2 c 32#32) rfl (by decide +kernel) fun v => ?_
  refine op_store m K c _ 1 (fun c => k0_off2 c 32#32) rfl (by decide +kernel) rfl ?_
  refine op_gstart m K c _ 11 k0_cond3 k0_off5 k0_dev14 (by decide +kernel) rfl rfl ?_
  refine op_gstart m K c _ 25 k0_cond4 k0_off6 k0_dev15 (by decide +kernel) rfl rfl ?_
  exact op_ret c hk

/-- Chunk 2, and the wait for chunk 3. -/
theorem part8_run {Q : PUnit → sProp 𝕄} {h0 h1 h2} (v2 v5 v8 v17 v18 v19 v20 v21 v44) (hk : Full m K c 21 ⊢ Q ⟨⟩) :
    Full m K c 16 ⊢ Goes c (k0_part8 xM h0 oM h1 zM h2 cc0_scratch1 cc0_scratch2 cc0_scratch3 cc0_scratch4 cc0_scratch5
      cc0_scratch6 c v2 v5 v8 v17 v18 v19 v20 v21 v44) Q := by
  simp only [k0_part8_eq_skeleton]; unfold k0_part8_skel
  simp only [Prog.lift, Prog.bind_op, Prog.bind_ret, Prog.pure_eq_ret]
  refine op_recv m K c _ 2 (by decide +kernel) rfl rfl ?_
  refine op_load_arg m K c _ 2 (fun c => k0_off2 c 64#32) (by decide +kernel) ?_
  refine op_load_buf m K c _ 2 rfl rfl ?_
  refine op_load_own m K c _ 2 (fun c => k0_off2 c 64#32) rfl (by decide +kernel) fun v => ?_
  refine op_store m K c _ 2 (fun c => k0_off2 c 64#32) rfl (by decide +kernel) rfl ?_
  refine op_gstart m K c _ 12 k0_cond5 k0_off7 k0_dev16 (by decide +kernel) rfl rfl ?_
  refine op_gstart m K c _ 26 k0_cond6 k0_off8 k0_dev17 (by decide +kernel) rfl rfl ?_
  refine op_recv m K c _ 3 (by decide +kernel) rfl rfl ?_
  exact op_ret c hk

/-- Chunk 3, and the start of chunk 4. -/
theorem part9_run {Q : FVec F S32x512 .f32 → sProp 𝕄} {h0 h1 h2} (v2 v5 v8 v17 v18 v19 v20 v21 v44)
    (hk : Full m K c 25 ⊢ Q (k0_pay5 (val m (tag c (ownX c 4))))) :
    Full m K c 21 ⊢ Goes c (k0_part9 xM h0 oM h1 zM h2 cc0_scratch1 cc0_scratch2 cc0_scratch3 cc0_scratch4 cc0_scratch5
      cc0_scratch6 c v2 v5 v8 v17 v18 v19 v20 v21 v44) Q := by
  simp only [k0_part9_eq_skeleton]; unfold k0_part9_skel
  simp only [Prog.lift, Prog.bind_op, Prog.bind_ret, Prog.pure_eq_ret]
  refine op_load_arg m K c _ 3 (fun c => k0_off2 c 96#32) (by decide +kernel) ?_
  refine op_load_buf m K c _ 3 rfl rfl ?_
  refine op_load_own m K c _ 3 (fun c => k0_off2 c 96#32) rfl (by decide +kernel) fun v => ?_
  refine op_store m K c _ 3 (fun c => k0_off2 c 96#32) rfl (by decide +kernel) rfl ?_
  refine op_gstart m K c _ 13 k0_cond7 k0_off9 k0_dev18 (by decide +kernel) rfl rfl ?_
  refine op_gstart m K c _ 27 k0_cond8 k0_off10 k0_dev19 (by decide +kernel) rfl rfl ?_
  refine op_recv m K c _ 4 (by decide +kernel) rfl rfl ?_
  refine op_load_arg m K c _ 4 (fun c => k0_off2 c 128#32) (by decide +kernel) ?_
  exact op_ret c hk

/-- The end of chunk 4, and the start of chunk 5. -/
theorem part10_run {Q : (Σ' (_ : FVec F S32x512 .f32), BitVec 32) → sProp 𝕄} {h0 h1 h2} (v2 v5 v8 v17 v18 v19 v20 v21 v44)
    (hk : ∀ w, Full m K c 29 ⊢ Q ⟨k0_pay7 (val m (tag c (ownX c 5))) (val m (tag c (.inr (.inr 5)))), w⟩) :
    Full m K c 25 ⊢ Goes c (k0_part10 xM h0 oM h1 zM h2 cc0_scratch1 cc0_scratch2 cc0_scratch3 cc0_scratch4 cc0_scratch5
      cc0_scratch6 c v2 v5 v8 v17 v18 v19 v20 v21 v44 (k0_pay5 (val m (tag c (ownX c 4))))) Q := by
  simp only [k0_part10_eq_skeleton]; unfold k0_part10_skel
  simp only [Prog.lift, Prog.bind_op, Prog.bind_ret, Prog.pure_eq_ret]
  refine op_load_buf m K c _ 4 rfl rfl ?_
  refine op_load_own m K c _ 4 (fun c => k0_off2 c 128#32) rfl (by decide +kernel) fun v => ?_
  refine op_store m K c _ 4 (fun c => k0_off2 c 128#32) rfl (by decide +kernel) rfl ?_
  refine op_gstart m K c _ 14 k0_cond9 k0_off11 k0_dev20 (by decide +kernel) rfl rfl ?_
  refine op_gstart m K c _ 28 k0_cond10 k0_off12 k0_dev21 (by decide +kernel) rfl rfl ?_
  refine op_recv m K c _ 5 (by decide +kernel) rfl rfl ?_
  refine op_load_arg m K c _ 5 (fun c => k0_off2 c 160#32) (by decide +kernel) ?_
  refine op_load_buf m K c _ 5 rfl rfl ?_
  exact op_ret c (hk _)

/-- The end of chunk 5, and the start of chunk 6. -/
theorem part11_run {Q : FVec F S32x512 .f32 → sProp 𝕄} {h0 h1 h2} (v2 v5 v8 v17 v18 v19 v20 v21 v44 w)
    (hk : Full m K c 33 ⊢ Q (k0_pay8 (val m (tag c (ownX c 6))) (val m (tag c (.inr (.inr 6)))))) :
    Full m K c 29 ⊢ Goes c (k0_part11 xM h0 oM h1 zM h2 cc0_scratch1 cc0_scratch2 cc0_scratch3 cc0_scratch4 cc0_scratch5
      cc0_scratch6 c v2 v5 v8 v17 v18 v19 v20 v21 v44 (k0_pay7 (val m (tag c (ownX c 5))) (val m (tag c (.inr (.inr 5))))) w) Q := by
  simp only [k0_part11_eq_skeleton]; unfold k0_part11_skel
  simp only [Prog.lift, Prog.bind_op, Prog.bind_ret, Prog.pure_eq_ret]
  refine op_load_own m K c _ 5 (fun c => k0_off2 c 160#32) rfl (by decide +kernel) fun v => ?_
  refine op_store m K c _ 5 (fun c => k0_off2 c 160#32) rfl (by decide +kernel) rfl ?_
  refine op_gstart m K c _ 15 k0_cond11 k0_off13 k0_dev22 (by decide +kernel) rfl rfl ?_
  refine op_gstart m K c _ 29 k0_cond12 k0_off14 k0_dev23 (by decide +kernel) rfl rfl ?_
  refine op_recv m K c _ 6 (by decide +kernel) rfl rfl ?_
  refine op_load_arg m K c _ 6 (fun c => k0_off2 c 192#32) (by decide +kernel) ?_
  refine op_load_buf m K c _ 6 rfl rfl ?_
  refine op_load_own m K c _ 6 (fun c => k0_off2 c 192#32) rfl (by decide +kernel) fun v => ?_
  exact op_ret c hk

/-- The end of chunk 6, and the sum of chunk 7. -/
theorem part12_run {Q : BitVec 32 → sProp 𝕄} {h0 h1 h2} (v2 v5 v8 v17 v18 v19 v20 v21 v44) (hk : ∀ v, Full m K c 38 ⊢ Q v) :
    Full m K c 33 ⊢ Goes c (k0_part12 xM h0 oM h1 zM h2 cc0_scratch1 cc0_scratch2 cc0_scratch3 cc0_scratch4 cc0_scratch5
      cc0_scratch6 c v2 v5 v8 v17 v18 v19 v20 v21 v44 (k0_pay8 (val m (tag c (ownX c 6))) (val m (tag c (.inr (.inr 6)))))) Q := by
  simp only [k0_part12_eq_skeleton]; unfold k0_part12_skel
  simp only [Prog.lift, Prog.bind_op, Prog.bind_ret, Prog.pure_eq_ret]
  refine op_store m K c _ 6 (fun c => k0_off2 c 192#32) rfl (by decide +kernel) rfl ?_
  refine op_gstart m K c _ 16 k0_cond13 k0_off15 k0_dev24 (by decide +kernel) rfl rfl ?_
  refine op_gstart m K c _ 30 k0_cond14 k0_off16 k0_dev25 (by decide +kernel) rfl rfl ?_
  refine op_recv m K c _ 7 (by decide +kernel) rfl rfl ?_
  refine op_load_arg m K c _ 7 (fun c => k0_off2 c 224#32) (by decide +kernel) ?_
  refine op_load_buf m K c _ 7 rfl rfl ?_
  refine op_load_own m K c _ 7 (fun c => k0_off2 c 224#32) rfl (by decide +kernel) fun v => ?_
  refine op_store m K c _ 7 (fun c => k0_off2 c 224#32) rfl (by decide +kernel) rfl ?_
  exact op_ret c (hk _)

end Cert.Kernel.Pf
-- ==== Proof.Run.Forwards.lean ====
/-
# Passing the sums on: second part of the kernel's text

For each of the eight chunks: waiting for the sums of the x and y neighbours where they come, passing one of them on to the z
neighbour, and passing one on along x or y.
-/
module

public import proofs.«01_k».proof.Proof.Run.Ops

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- The copies of chunk 7, and round 0 up to its forward. -/
theorem part13_run {Q : BitVec 32 → sProp 𝕄} {h0 h1 h2} (v2 v5 v8 v17 v18 v19 v20 v21 v23 v24 v44 v46 c7) (hk : ∀ v, Full m K c 44 ⊢ Q v) :
    Full m K c 38 ⊢ Goes c (k0_part13 xM h0 oM h1 zM h2 cc0_scratch1 cc0_scratch2 cc0_scratch3 cc0_scratch4 cc0_scratch5
      cc0_scratch6 c v2 v5 v8 v17 v18 v19 v20 v21 v23 v24 v44 v46 c7) Q := by
  simp only [k0_part13_eq_skeleton]; unfold k0_part13_skel
  simp only [Prog.lift, Prog.bind_op, Prog.bind_ret, Prog.pure_eq_ret]
  refine op_gstart m K c _ 17 k0_cond15 k0_off17 k0_dev26 (by decide +kernel) rfl rfl ?_
  refine op_gstart m K c _ 31 k0_cond16 k0_off18 k0_dev27 (by decide +kernel) rfl rfl ?_
  refine op_grecv m K c _ 10 k0_cond17 (by decide +kernel) rfl (fun _ => rfl) ?_
  refine op_gstart m K c _ 8 k0_cond18 k0_off20 k0_dev28 (by decide +kernel) rfl rfl ?_
  refine op_grecv m K c _ 24 k0_cond19 (by decide +kernel) rfl (fun _ => rfl) ?_
  refine op_gstart m K c _ 9 k0_cond20 k0_off22 k0_dev29 (by decide +kernel) rfl rfl ?_
  exact op_ret c (hk _)

/-- The forward of round 0, and round 1 up to its forward. -/
theorem part14_run {Q : PUnit → sProp 𝕄} {h0 h1 h2} (v2 v5 v8 v17 v18 v19 v20 v21 v23 v24 v46 v387) (hk : Full m K c 49 ⊢ Q ⟨⟩) :
    Full m K c 44 ⊢ Goes c (k0_part14 xM h0 oM h1 zM h2 cc0_scratch1 cc0_scratch2 cc0_scratch3 cc0_scratch4 cc0_scratch5
      cc0_scratch6 c v2 v5 v8 v17 v18 v19 v20 v21 v23 v24 v46 v387) Q := by
  simp only [k0_part14_eq_skeleton]; unfold k0_part14_skel
  simp only [Prog.lift, Prog.bind_op, Prog.bind_ret, Prog.pure_eq_ret]
  refine op_start m K c _ 20 (fun c => k0_off23 c 0#32) k0_dev30 (by decide +kernel) rfl rfl ?_
  refine op_grecv m K c _ 11 k0_cond21 (by decide +kernel) rfl (fun _ => rfl) ?_
  refine op_gstart m K c _ 8 k0_cond22 k0_off25 k0_dev31 (by decide +kernel) rfl rfl ?_
  refine op_grecv m K c _ 25 k0_cond23 (by decide +kernel) rfl (fun _ => rfl) ?_
  refine op_gstart m K c _ 9 k0_cond24 k0_off27 k0_dev32 (by decide +kernel) rfl rfl ?_
  exact op_ret c hk

/-- The forward of round 1, and round 2 up to its forward. -/
theorem part15_run {Q : PUnit → sProp 𝕄} {h0 h1 h2} (v2 v5 v8 v17 v18 v19 v20 v21 v23 v24 v46) (hk : Full m K c 54 ⊢ Q ⟨⟩) :
    Full m K c 49 ⊢ Goes c (k0_part15 xM h0 oM h1 zM h2 cc0_scratch1 cc0_scratch2 cc0_scratch3 cc0_scratch4 cc0_scratch5
      cc0_scratch6 c v2 v5 v8 v17 v18 v19 v20 v21 v23 v24 v46) Q := by
  simp only [k0_part15_eq_skeleton]; unfold k0_part15_skel
  simp only [Prog.lift, Prog.bind_op, Prog.bind_ret, Prog.pure_eq_ret]
  refine op_start m K c _ 21 (fun c => k0_off23 c 32#32) k0_dev33 (by decide +kernel) rfl rfl ?_
  refine op_grecv m K c _ 12 k0_cond25 (by decide +kernel) rfl (fun _ => rfl) ?_
  refine op_gstart m K c _ 8 k0_cond26 k0_off29 k0_dev34 (by decide +kernel) rfl rfl ?_
  refine op_grecv m K c _ 26 k0_cond27 (by decide +kernel) rfl (fun _ => rfl) ?_
  refine op_gstart m K c _ 9 k0_cond28 k0_off31 k0_dev35 (by decide +kernel) rfl rfl ?_
  exact op_ret c hk

/-- The forward of round 2, and round 3. -/
theorem part16_run {Q : BitVec 32 → sProp 𝕄} {h0 h1 h2} (v2 v5 v8 v17 v18 v19 v20 v21 v23 v24 v46) (hk : ∀ v, Full m K c 60 ⊢ Q v) :
    Full m K c 54 ⊢ Goes c (k0_part16 xM h0 oM h1 zM h2 cc0_scratch1 cc0_scratch2 cc0_scratch3 cc0_scratch4 cc0_scratch5
      cc0_scratch6 c v2 v5 v8 v17 v18 v19 v20 v21 v23 v24 v46) Q := by
  simp only [k0_part16_eq_skeleton]; unfold k0_part16_skel
  simp only [Prog.lift, Prog.bind_op, Prog.bind_ret, Prog.pure_eq_ret]
  refine op_start m K c _ 22 (fun c => k0_off23 c 64#32) k0_dev36 (by decide +kernel) rfl rfl ?_
  refine op_grecv m K c _ 13 k0_cond29 (by decide +kernel) rfl (fun _ => rfl) ?_
  refine op_gstart m K c _ 8 k0_cond30 k0_off33 k0_dev37 (by decide +kernel) rfl rfl ?_
  refine op_grecv m K c _ 27 k0_cond31 (by decide +kernel) rfl (fun _ => rfl) ?_
  refine op_gstart m K c _ 9 k0_cond32 k0_off35 k0_dev38 (by decide +kernel) rfl rfl ?_
  refine op_start m K c _ 23 (fun c => k0_off23 c 96#32) k0_dev39 (by decide +kernel) rfl rfl ?_
  exact op_ret c (hk _)

/-- Round 4, and the first wait of round 5. -/
theorem part17_run {Q : PUnit → sProp 𝕄} {h0 h1 h2} (v2 v5 v8 v17 v18 v19 v20 v21 v23 v24 v45 v472) (hk : Full m K c 66 ⊢ Q ⟨⟩) :
    Full m K c 60 ⊢ Goes c (k0_part17 xM h0 oM h1 zM h2 cc0_scratch1 cc0_scratch2 cc0_scratch3 cc0_scratch4 cc0_scratch5
      cc0_scratch6 c v2 v5 v8 v17 v18 v19 v20 v21 v23 v24 v45 v472) Q := by
  simp only [k0_part17_eq_skeleton]; unfold k0_part17_skel
  simp only [Prog.lift, Prog.bind_op, Prog.bind_ret, Prog.pure_eq_ret]
  refine op_grecv m K c _ 14 k0_cond33 (by decide +kernel) rfl (fun _ => rfl) ?_
  refine op_gstart m K c _ 8 k0_cond34 k0_off37 k0_dev40 (by decide +kernel) rfl rfl ?_
  refine op_grecv m K c _ 28 k0_cond35 (by decide +kernel) rfl (fun _ => rfl) ?_
  refine op_gstart m K c _ 9 k0_cond36 k0_off39 k0_dev41 (by decide +kernel) rfl rfl ?_
  refine op_start m K c _ 34 (fun c => k0_off40 c 128#32) k0_dev42 (by decide +kernel) rfl rfl ?_
  refine op_grecv m K c _ 15 k0_cond37 (by decide +kernel) rfl (fun _ => rfl) ?_
  exact op_ret c hk

/-- The rest of round 5, and the first wait of round 6. -/
theorem part18_run {Q : BitVec 32 → sProp 𝕄} {h0 h1 h2} (v2 v5 v8 v17 v18 v19 v20 v21 v23 v24 v45) (hk : ∀ v, Full m K c 71 ⊢ Q v) :
    Full m K c 66 ⊢ Goes c (k0_part18 xM h0 oM h1 zM h2 cc0_scratch1 cc0_scratch2 cc0_scratch3 cc0_scratch4 cc0_scratch5
      cc0_scratch6 c v2 v5 v8 v17 v18 v19 v20 v21 v23 v24 v45) Q := by
  simp only [k0_part18_eq_skeleton]; unfold k0_part18_skel
  simp only [Prog.lift, Prog.bind_op, Prog.bind_ret, Prog.pure_eq_ret]
  refine op_gstart m K c _ 8 k0_cond38 k0_off42 k0_dev43 (by decide +kernel) rfl rfl ?_
  refine op_grecv m K c _ 29 k0_cond39 (by decide +kernel) rfl (fun _ => rfl) ?_
  refine op_gstart m K c _ 9 k0_cond40 k0_off44 k0_dev44 (by decide +kernel) rfl rfl ?_
  refine op_start m K c _ 35 (fun c => k0_off40 c 160#32) k0_dev45 (by decide +kernel) rfl rfl ?_
  refine op_grecv m K c _ 16 k0_cond41 (by decide +kernel) rfl (fun _ => rfl) ?_
  exact op_ret c (hk _)

/-- The rest of round 6, and the start of round 7. -/
theorem part19_run {Q : BitVec 1 → sProp 𝕄} {h0 h1 h2} (v2 v5 v8 v17 v18 v19 v20 v21 v23 v24 v45 v525) (hk : ∀ v, Full m K c 77 ⊢ Q v) :
    Full m K c 71 ⊢ Goes c (k0_part19 xM h0 oM h1 zM h2 cc0_scratch1 cc0_scratch2 cc0_scratch3 cc0_scratch4 cc0_scratch5
      cc0_scratch6 c v2 v5 v8 v17 v18 v19 v20 v21 v23 v24 v45 v525) Q := by
  simp only [k0_part19_eq_skeleton]; unfold k0_part19_skel
  simp only [Prog.lift, Prog.bind_op, Prog.bind_ret, Prog.pure_eq_ret]
  refine op_gstart m K c _ 8 k0_cond42 k0_off46 k0_dev46 (by decide +kernel) rfl rfl ?_
  refine op_grecv m K c _ 30 k0_cond43 (by decide +kernel) rfl (fun _ => rfl) ?_
  refine op_gstart m K c _ 9 k0_cond44 k0_off48 k0_dev47 (by decide +kernel) rfl rfl ?_
  refine op_start m K c _ 36 (fun c => k0_off40 c 192#32) k0_dev48 (by decide +kernel) rfl rfl ?_
  refine op_grecv m K c _ 17 k0_cond45 (by decide +kernel) rfl (fun _ => rfl) ?_
  refine op_gstart m K c _ 8 k0_cond46 k0_off50 k0_dev49 (by decide +kernel) rfl rfl ?_
  exact op_ret c (hk _)

/-- The rest of round 7, and the wait for the first of the two sums from the z neighbour. -/
theorem part20_run {Q : BitVec 32 → sProp 𝕄} {h0 h1 h2} (v2 v5 v8 v17 v19 v24 v45 v552) (hk : ∀ v, Full m K c 81 ⊢ Q v) :
    Full m K c 77 ⊢ Goes c (k0_part20 xM h0 oM h1 zM h2 cc0_scratch1 cc0_scratch2 cc0_scratch3 cc0_scratch4 cc0_scratch5
      cc0_scratch6 c v2 v5 v8 v17 v19 v24 v45 v552) Q := by
  simp only [k0_part20_eq_skeleton]; unfold k0_part20_skel
  simp only [Prog.lift, Prog.bind_op, Prog.bind_ret, Prog.pure_eq_ret]
  refine op_grecv m K c _ 31 k0_cond47 (by decide +kernel) rfl (fun _ => rfl) ?_
  refine op_gstart m K c _ 9 k0_cond48 k0_off52 k0_dev50 (by decide +kernel) rfl rfl ?_
  refine op_start m K c _ 37 (fun c => k0_off40 c 224#32) k0_dev51 (by decide +kernel) rfl rfl ?_
  refine op_recv m K c _ 8 (by decide +kernel) rfl rfl ?_
  exact op_ret c (hk _)

end Cert.Kernel.Pf
-- ==== Proof.Run.Waits.lean ====
/-
# The last waits: third part of the kernel's text

Waiting for the sums passed on by the neighbours, and for the end of the own copies.
-/
module

public import proofs.«01_k».proof.Proof.Run.Ops

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- Arrivals of the passed-on sums. -/
theorem part21_run {Q : (Σ' (_ : BitVec 32), BitVec 32) → sProp 𝕄} {h0 h1 h2} (v5 v8 v17 v18 v581) (hk : ∀ v, Full m K c 84 ⊢ Q v) :
    Full m K c 81 ⊢ Goes c (k0_part21 xM h0 oM h1 zM h2 cc0_scratch1 cc0_scratch2 cc0_scratch3 cc0_scratch4 cc0_scratch5
      cc0_scratch6 c v5 v8 v17 v18 v581) Q := by
  simp only [k0_part21_eq_skeleton]; unfold k0_part21_skel
  simp only [Prog.lift, Prog.bind_op, Prog.bind_ret, Prog.pure_eq_ret]
  refine op_recv m K c _ 9 (by decide +kernel) rfl rfl ?_
  refine op_recv m K c _ 20 (by decide +kernel) rfl rfl ?_
  refine op_recv m K c _ 21 (by decide +kernel) rfl rfl ?_
  exact op_ret c (hk _)

/-- More arrivals. -/
theorem part22_run {Q : (Σ' (_ : BitVec 32), BitVec 32) → sProp 𝕄} {h0 h1 h2} (v2 v5 v8 v18 v19 v612 c2) (hk : ∀ v, Full m K c 87 ⊢ Q v) :
    Full m K c 84 ⊢ Goes c (k0_part22 xM h0 oM h1 zM h2 cc0_scratch1 cc0_scratch2 cc0_scratch3 cc0_scratch4 cc0_scratch5
      cc0_scratch6 c v2 v5 v8 v18 v19 v612 c2) Q := by
  simp only [k0_part22_eq_skeleton]; unfold k0_part22_skel
  simp only [Prog.lift, Prog.bind_op, Prog.bind_ret, Prog.pure_eq_ret]
  refine op_recv m K c _ 22 (by decide +kernel) rfl rfl ?_
  refine op_recv m K c _ 23 (by decide +kernel) rfl rfl ?_
  refine op_recv m K c _ 34 (by decide +kernel) rfl rfl ?_
  exact op_ret c (hk _)

/-- The last arrivals, and the end of the own copy 0. -/
theorem part23_run {Q : PUnit → sProp 𝕄} {h0 h1 h2} (v2 v8 v19 v644 c1) (hk : Full m K c 91 ⊢ Q ⟨⟩) :
    Full m K c 87 ⊢ Goes c (k0_part23 xM h0 oM h1 zM h2 cc0_scratch1 cc0_scratch2 cc0_scratch3 cc0_scratch4 cc0_scratch5
      cc0_scratch6 c v2 v8 v19 v644 c1) Q := by
  simp only [k0_part23_eq_skeleton]; unfold k0_part23_skel
  simp only [Prog.lift, Prog.bind_op, Prog.bind_ret, Prog.pure_eq_ret]
  refine op_recv m K c _ 35 (by decide +kernel) rfl rfl ?_
  refine op_recv m K c _ 36 (by decide +kernel) rfl rfl ?_
  refine op_recv m K c _ 37 (by decide +kernel) rfl rfl ?_
  refine op_send m K c _ 0 (by decide +kernel) rfl rfl ?_
  exact op_ret c hk

/-- Ends of the copies of argument rows. -/
theorem part24_run {Q : PUnit → sProp 𝕄} {h0 h1 h2} (hk : Full m K c 96 ⊢ Q ⟨⟩) :
    Full m K c 91 ⊢ Goes c (k0_part24 xM h0 oM h1 zM h2 cc0_scratch1 cc0_scratch2 cc0_scratch3 cc0_scratch4 cc0_scratch5
      cc0_scratch6 c) Q := by
  simp only [k0_part24_eq_skeleton]; unfold k0_part24_skel
  simp only [Prog.lift, Prog.bind_op, Prog.bind_ret, Prog.pure_eq_ret]
  refine op_send m K c _ 1 (by decide +kernel) rfl rfl ?_
  refine op_send m K c _ 2 (by decide +kernel) rfl rfl ?_
  refine op_send m K c _ 3 (by decide +kernel) rfl rfl ?_
  refine op_send m K c _ 4 (by decide +kernel) rfl rfl ?_
  refine op_send m K c _ 5 (by decide +kernel) rfl rfl ?_
  exact op_ret c hk

/-- Ends of the copies to the z neighbour, and of two along x. -/
theorem part25_run {Q : PUnit → sProp 𝕄} {h0 h1 h2} (hk : Full m K c 102 ⊢ Q ⟨⟩) :
    Full m K c 96 ⊢ Goes c (k0_part25 xM h0 oM h1 zM h2 cc0_scratch1 cc0_scratch2 cc0_scratch3 cc0_scratch4 cc0_scratch5
      cc0_scratch6 c) Q := by
  simp only [k0_part25_eq_skeleton]; unfold k0_part25_skel
  simp only [Prog.lift, Prog.bind_op, Prog.bind_ret, Prog.pure_eq_ret]
  refine op_send m K c _ 6 (by decide +kernel) rfl rfl ?_
  refine op_send m K c _ 7 (by decide +kernel) rfl rfl ?_
  refine op_send m K c _ 8 (by decide +kernel) rfl rfl ?_
  refine op_send m K c _ 9 (by decide +kernel) rfl rfl ?_
  refine op_send m K c _ 20 (by decide +kernel) rfl rfl ?_
  refine op_send m K c _ 21 (by decide +kernel) rfl rfl ?_
  exact op_ret c hk

/-- Ends of the forwards. -/
theorem part26_run {Q : BitVec 32 → sProp 𝕄} {h0 h1 h2} (v20) (hk : ∀ v, Full m K c 108 ⊢ Q v) :
    Full m K c 102 ⊢ Goes c (k0_part26 xM h0 oM h1 zM h2 cc0_scratch1 cc0_scratch2 cc0_scratch3 cc0_scratch4 cc0_scratch5
      cc0_scratch6 c v20) Q := by
  simp only [k0_part26_eq_skeleton]; unfold k0_part26_skel
  simp only [Prog.lift, Prog.bind_op, Prog.bind_ret, Prog.pure_eq_ret]
  refine op_send m K c _ 22 (by decide +kernel) rfl rfl ?_
  refine op_send m K c _ 23 (by decide +kernel) rfl rfl ?_
  refine op_send m K c _ 34 (by decide +kernel) rfl rfl ?_
  refine op_send m K c _ 35 (by decide +kernel) rfl rfl ?_
  refine op_send m K c _ 36 (by decide +kernel) rfl rfl ?_
  refine op_send m K c _ 37 (by decide +kernel) rfl rfl ?_
  exact op_ret c (hk _)

/-- Ends of the copies of sums 0 to 3. -/
theorem part27_run {Q : BitVec 32 → sProp 𝕄} {h0 h1 h2} (v20 v21 v744) (hk : ∀ v, Full m K c 116 ⊢ Q v) :
    Full m K c 108 ⊢ Goes c (k0_part27 xM h0 oM h1 zM h2 cc0_scratch1 cc0_scratch2 cc0_scratch3 cc0_scratch4 cc0_scratch5
      cc0_scratch6 c v20 v21 v744) Q := by
  simp only [k0_part27_eq_skeleton]; unfold k0_part27_skel
  simp only [Prog.lift, Prog.bind_op, Prog.bind_ret, Prog.pure_eq_ret]
  refine op_gsend m K c _ 10 k0_cond49 (by decide +kernel) rfl (fun _ => rfl) ?_
  refine op_gsend m K c _ 24 k0_cond50 (by decide +kernel) rfl (fun _ => rfl) ?_
  refine op_gsend m K c _ 11 k0_cond51 (by decide +kernel) rfl (fun _ => rfl) ?_
  refine op_gsend m K c _ 25 k0_cond52 (by decide +kernel) rfl (fun _ => rfl) ?_
  refine op_gsend m K c _ 12 k0_cond53 (by decide +kernel) rfl (fun _ => rfl) ?_
  refine op_gsend m K c _ 26 k0_cond54 (by decide +kernel) rfl (fun _ => rfl) ?_
  refine op_gsend m K c _ 13 k0_cond55 (by decide +kernel) rfl (fun _ => rfl) ?_
  refine op_gsend m K c _ 27 k0_cond56 (by decide +kernel) rfl (fun _ => rfl) ?_
  exact op_ret c (hk _)

/-- Ends of the copies of sums 4 to 7, but for the last. -/
theorem part28_run {Q : BitVec 32 → sProp 𝕄} {h0 h1 h2} (v20 v21 c4) (hk : ∀ v, Full m K c 123 ⊢ Q v) :
    Full m K c 116 ⊢ Goes c (k0_part28 xM h0 oM h1 zM h2 cc0_scratch1 cc0_scratch2 cc0_scratch3 cc0_scratch4 cc0_scratch5
      cc0_scratch6 c v20 v21 c4) Q := by
  simp only [k0_part28_eq_skeleton]; unfold k0_part28_skel
  simp only [Prog.lift, Prog.bind_op, Prog.bind_ret, Prog.pure_eq_ret]
  refine op_gsend m K c _ 14 k0_cond57 (by decide +kernel) rfl (fun _ => rfl) ?_
  refine op_gsend m K c _ 28 k0_cond58 (by decide +kernel) rfl (fun _ => rfl) ?_
  refine op_gsend m K c _ 15 k0_cond59 (by decide +kernel) rfl (fun _ => rfl) ?_
  refine op_gsend m K c _ 29 k0_cond60 (by decide +kernel) rfl (fun _ => rfl) ?_
  refine op_gsend m K c _ 16 k0_cond61 (by decide +kernel) rfl (fun _ => rfl) ?_
  refine op_gsend m K c _ 30 k0_cond62 (by decide +kernel) rfl (fun _ => rfl) ?_
  refine op_gsend m K c _ 17 k0_cond63 (by decide +kernel) rfl (fun _ => rfl) ?_
  exact op_ret c (hk _)

end Cert.Kernel.Pf
-- ==== Proof.Run.Whole.lean ====
/-
# The kernel's text from beginning to end

The stretches of text put together: from what a device holds when its kernel starts to the last step of the plan.
-/
module

public import proofs.«01_k».proof.Proof.Run.Entry
public import proofs.«01_k».proof.Proof.Run.Adds
public import proofs.«01_k».proof.Proof.Run.Forwards
public import proofs.«01_k».proof.Proof.Run.Waits

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- The whole text of the kernel takes a device from its start to the end of the plan. -/
theorem whole_run {h0 h1 h2} :
    Gate m K c ⊢ Goes c (cc0_body_skel xM h0 oM h1 zM h2 cc0_scratch1 cc0_scratch2 cc0_scratch3 cc0_scratch4 cc0_scratch5 cc0_scratch6)
      (fun _ => iprop(atPos ER (barCell c) 1 ∅ 0 ∗ Full m K c 124)) := by
  unfold cc0_body_skel
  refine op_bind c (part1_run m K c fun v2 v5 v8 v10 v13 v16 v17 v18 v19 v20 v21 v23 v24 v => ?_)
  refine op_bind c (part2_run m K c _ _ _ _ _ _ _ _ _ _ fun v => ?_)
  refine op_frame c ?_
  refine op_bind c (part3_run m K c _ _ _ _ _ ?_)
  refine op_bind c (part4_run m K c _ _ _ _ fun v => ?_)
  refine op_bind c (part5_run m K c _ _ _ _ _ _ _ _ _ fun v => ?_)
  refine op_bind c (part6_run m K c _ _ _ _ _ _ _ _ _ _ _ ?_)
  refine op_bind c (part7_run m K c _ _ _ _ _ _ _ _ _ ?_)
  refine op_bind c (part8_run m K c _ _ _ _ _ _ _ _ _ ?_)
  refine op_bind c (part9_run m K c _ _ _ _ _ _ _ _ _ ?_)
  refine op_bind c (part10_run m K c _ _ _ _ _ _ _ _ _ fun w => ?_)
  refine op_bind c (part11_run m K c _ _ _ _ _ _ _ _ _ _ ?_)
  refine op_bind c (part12_run m K c _ _ _ _ _ _ _ _ _ fun v => ?_)
  refine op_bind c (part13_run m K c _ _ _ _ _ _ _ _ _ _ _ _ _ fun v => ?_)
  refine op_bind c (part14_run m K c _ _ _ _ _ _ _ _ _ _ _ _ ?_)
  refine op_bind c (part15_run m K c _ _ _ _ _ _ _ _ _ _ _ ?_)
  refine op_bind c (part16_run m K c _ _ _ _ _ _ _ _ _ _ _ fun v => ?_)
  refine op_bind c (part17_run m K c _ _ _ _ _ _ _ _ _ _ _ _ ?_)
  refine op_bind c (part18_run m K c _ _ _ _ _ _ _ _ _ _ _ fun v => ?_)
  refine op_bind c (part19_run m K c _ _ _ _ _ _ _ _ _ _ _ _ fun v => ?_)
  refine op_bind c (part20_run m K c _ _ _ _ _ _ _ _ fun v => ?_)
  refine op_bind c (part21_run m K c _ _ _ _ _ fun v => ?_)
  refine op_bind c (part22_run m K c _ _ _ _ _ _ _ fun v => ?_)
  refine op_bind c (part23_run m K c _ _ _ _ _ ?_)
  refine op_bind c (part24_run m K c ?_)
  refine op_bind c (part25_run m K c ?_)
  refine op_bind c (part26_run m K c _ fun v => ?_)
  refine op_bind c (part27_run m K c _ _ _ fun v => ?_)
  refine op_bind c (part28_run m K c _ _ _ fun v => ?_)
  simp only [Prog.lift, Prog.bind_op, Prog.bind_ret, Prog.pure_eq_ret]
  refine op_gsend m K c _ 31 k0_cond64 (by decide +kernel) rfl (fun _ => rfl) ?_
  exact op_ret c (BI.wand_intro BI.sep_comm)

end Cert.Kernel.Pf
-- ==== Proof.Run.Buffers.lean ====
/-
# Whole buffers and their chunks

A buffer cut into chunks of 32 rows and put together again: the staged argument and the two other buffers before the kernel
starts, and all three when it has ended.
-/
module

public import proofs.«01_k».proof.Proof.Run.Entry

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-! ## Cutting by rows -/

section Cut
variable {ℓ : Loc nD τ sig} {n : ℕ} (S : Fin n → Finset (Idx ℓ)) (ro : Idx ℓ → ℕ) (hlt : ∀ i, ro i < 32 * n)
  (hS : ∀ t i, i ∈ S t ↔ 32 * t.val ≤ ro i ∧ ro i < 32 * t.val + 32)

include hS in
/-- Two chunks share nothing. -/
theorem cut_disjoint (t : Fin n) (t' : Fin n) (h : t ≠ t') : Disjoint (S t) (S t') := by
  rw [Finset.disjoint_left]
  intro i h1 h2
  have h1 := (hS t i).mp h1
  have h2 := (hS t' i).mp h2
  exact h (Fin.ext (by omega))

include hS hlt in
/-- All chunks together are the buffer. -/
theorem cut_cover : Finset.univ.biUnion S = Finset.univ := by
  refine Finset.eq_univ_of_forall fun i => ?_
  have h := hlt i
  exact Finset.mem_biUnion.mpr ⟨⟨ro i / 32, by omega⟩, Finset.mem_univ _, (hS _ i).mpr ⟨by show 32 * (ro i / 32) ≤ _; omega, by show _ < 32 * (ro i / 32) + 32; omega⟩⟩

include hS hlt in
omit [FloatOps F] in
/-- A buffer is its chunks. -/
theorem cut_eq (f : Buf (Elt F) ℓ) : (ℓ ↦{fullShare} f : sProp 𝕄) = bigSep Finset.univ fun t : Fin n => ℓ ↦[S t]{fullShare} f := by
  rw [← pointsTo_biUnion Finset.univ S fun t _ t' _ h => cut_disjoint S ro hS t t' h, cut_cover S ro hlt hS]

include hS hlt in
omit [FloatOps F] in
/-- A buffer that holds anything is chunks that hold anything; -/
theorem cut_any : (iprop(∃ f : Buf (Elt F) ℓ, ℓ ↦{fullShare} f) : sProp 𝕄) ⊢ bigSep Finset.univ fun t : Fin n => iprop(∃ f : Buf (Elt F) ℓ, ℓ ↦[S t]{fullShare} f) := by
  iintro ⟨%f, H⟩
  ihave H := (Entails.of_eq (cut_eq S ro hlt hS f)) $$ H
  have h : (bigSep Finset.univ fun t : Fin n => (ℓ ↦[S t]{fullShare} f : sProp 𝕄)) ⊢ bigSep Finset.univ fun t : Fin n => iprop(∃ f : Buf (Elt F) ℓ, ℓ ↦[S t]{fullShare} f) :=
    bigSep_mono fun t _ => sProp.exists_intro (Φ := fun f : Buf (Elt F) ℓ => (ℓ ↦[S t]{fullShare} f : sProp 𝕄)) f
  iapply h; iexact H

include hS hlt in
omit [FloatOps F] in
/-- and the other way round. -/
theorem join_any [Nonempty (Buf (Elt F) ℓ)] :
    (bigSep Finset.univ fun t : Fin n => (iprop(∃ f : Buf (Elt F) ℓ, ℓ ↦[S t]{fullShare} f) : sProp 𝕄)) ⊢ iprop(∃ f : Buf (Elt F) ℓ, ℓ ↦{fullShare} f) := by
  iintro H
  ihave H := (BI.bigSep_exists_pi Finset.univ fun (t : Fin n) (f : Buf (Elt F) ℓ) => (ℓ ↦[S t]{fullShare} f : sProp 𝕄)) $$ H
  icases H with ⟨%fs, H⟩
  ihave H := (pointsTo_biUnion_join Finset.univ S fs (Classical.arbitrary _) fun t _ t' _ h => cut_disjoint S ro hS t t' h) $$ H
  icases H with ⟨%g, -, H⟩
  rw [cut_cover S ro hlt hS]
  iexists g; iexact H

include hS hlt in
omit [FloatOps F] in
/-- Chunks that hold parts of one contents are the buffer with that contents. -/
theorem join_eq (g : Buf (Elt F) ℓ) (fs : Fin n → Buf (Elt F) ℓ) (h : ∀ t, ∀ i ∈ S t, fs t i = g i) :
    (bigSep Finset.univ fun t : Fin n => (ℓ ↦[S t]{fullShare} fs t : sProp 𝕄)) = (ℓ ↦{fullShare} g) := by
  rw [cut_eq S ro hlt hS]
  exact bigSep_congr fun t _ => pointsTo_congr (h t)

end Cut

/-! ## The three buffers' chunks -/

/-- The places of the chunks. -/
def oS (t : Fin 32) : Finset (Idx ((c : Thread nD τ).loc cc0_stg1_0)) := (ch (.inl t)).view.set
def xS (t : Fin 32) : Finset (Idx ((c : Thread nD τ).loc cc0_stg0_0)) := (ch (.inr (.inl t))).view.set
def zS (t : Fin 8) : Finset (Idx ((c : Thread nD τ).loc cc0_scratch0)) := (ch (.inr (.inr t))).view.set
/-- The row of a place. -/
def oRo (i : Idx ((c : Thread nD τ).loc cc0_stg1_0)) : ℕ := ((show S1024x512.Idx from i) (0 : Fin 2)).val
def xRo (i : Idx ((c : Thread nD τ).loc cc0_stg0_0)) : ℕ := ((show S1024x512.Idx from i) (0 : Fin 2)).val
def zRo (i : Idx ((c : Thread nD τ).loc cc0_scratch0)) : ℕ := ((show S256x512.Idx from i) (0 : Fin 2)).val

theorem rect_big (t : Fin 32) (i : S1024x512.Idx) :
    i ∈ (Rect.unit (s := S1024x512) ![32 * t.val, 0] S32x512.size (inb_big t)).set ↔ 32 * t.val ≤ (i (0 : Fin 2)).val ∧ (i (0 : Fin 2)).val < 32 * t.val + 32 := by
  rw [Rect.mem_set_unit]
  constructor
  · intro h; exact h (0 : Fin 2)
  · intro h a
    match a with
    | (0 : Fin 2) => exact h
    | (1 : Fin 2) => exact ⟨Nat.zero_le _, by have h1 : (i (1 : Fin 2)).val < 512 := (i (1 : Fin 2)).isLt; show (i (1 : Fin 2)).val < 0 + 512; omega⟩
theorem rect_small (t : Fin 8) (i : S256x512.Idx) :
    i ∈ (Rect.unit (s := S256x512) ![32 * t.val, 0] S32x512.size (inb_small t)).set ↔ 32 * t.val ≤ (i (0 : Fin 2)).val ∧ (i (0 : Fin 2)).val < 32 * t.val + 32 := by
  rw [Rect.mem_set_unit]
  constructor
  · intro h; exact h (0 : Fin 2)
  · intro h a
    match a with
    | (0 : Fin 2) => exact h
    | (1 : Fin 2) => exact ⟨Nat.zero_le _, by have h1 : (i (1 : Fin 2)).val < 512 := (i (1 : Fin 2)).isLt; show (i (1 : Fin 2)).val < 0 + 512; omega⟩

theorem mem_oS (t : Fin 32) (i : Idx ((c : Thread nD τ).loc cc0_stg1_0)) : i ∈ oS c t ↔ 32 * t.val ≤ oRo c i ∧ oRo c i < 32 * t.val + 32 := by
  have e : oS c t = (Rect.unit (s := S1024x512) ![32 * t.val, 0] S32x512.size (inb_big t)).set := View.set_slice_whole cc0_stg1_0 _
  rw [e]; exact rect_big t i
theorem mem_xS (t : Fin 32) (i : Idx ((c : Thread nD τ).loc cc0_stg0_0)) : i ∈ xS c t ↔ 32 * t.val ≤ xRo c i ∧ xRo c i < 32 * t.val + 32 := by
  have e : xS c t = (Rect.unit (s := S1024x512) ![32 * t.val, 0] S32x512.size (inb_big t)).set := View.set_slice_whole cc0_stg0_0 _
  rw [e]; exact rect_big t i
theorem mem_zS (t : Fin 8) (i : Idx ((c : Thread nD τ).loc cc0_scratch0)) : i ∈ zS c t ↔ 32 * t.val ≤ zRo c i ∧ zRo c i < 32 * t.val + 32 := by
  have e : zS c t = (Rect.unit (s := S256x512) ![32 * t.val, 0] S32x512.size (inb_small t)).set := View.set_slice_whole cc0_scratch0 _
  rw [e]; exact rect_small t i
theorem oRo_lt (i : Idx ((c : Thread nD τ).loc cc0_stg1_0)) : oRo c i < 32 * 32 := ((show S1024x512.Idx from i) (0 : Fin 2)).isLt
theorem xRo_lt (i : Idx ((c : Thread nD τ).loc cc0_stg0_0)) : xRo c i < 32 * 32 := ((show S1024x512.Idx from i) (0 : Fin 2)).isLt
theorem zRo_lt (i : Idx ((c : Thread nD τ).loc cc0_scratch0)) : zRo c i < 32 * 8 := ((show S256x512.Idx from i) (0 : Fin 2)).isLt

/-- What the result's chunk `t` finally holds, as contents of the buffer. -/
def chunkAt (t : Fin 32) : (cc0_stg1_0 : Ref sig .tc).ty.Contents (Elt F) :=
  (ch (.inl t)).view.write (Elt F) (m ((c : Thread nD τ).loc cc0_stg1_0)) (val m (tag c (.inl t))) Finset.univ
/-- The staged result when the kernel has ended. -/
def outAt : (cc0_stg1_0 : Ref sig .tc).ty.Contents (Elt F) := fun i => chunkAt m c ⟨oRo c i / 32, by have := oRo_lt c i; omega⟩ i

/-- On its chunk it is the chunk's final value. -/
theorem outAt_on (t : Fin 32) (i : Idx ((c : Thread nD τ).loc cc0_stg1_0)) (h : i ∈ oS c t) : chunkAt m c t i = outAt m c i := by
  have h := (mem_oS c t i).mp h
  have e : (⟨oRo c i / 32, by have := oRo_lt c i; omega⟩ : Fin 32) = t := Fin.ext (by show oRo c i / 32 = t.val; omega)
  unfold outAt; rw [e]

/-- The staged argument's chunks hold their final values from the start. -/
theorem xchunk (t : Fin 32) : (ptv m c (.inr (.inl t)) fullShare : sProp 𝕄) = (((c : Thread nD τ).loc cc0_stg0_0) ↦[xS c t]{fullShare} xstg m c) :=
  (pt_of_read m c (.inr (.inl t)) fullShare (xstg m c) rfl).symm

omit [FloatOps F] in
/-- A family over the chunks of the three buffers. -/
theorem over_regs (Φ : Reg → sProp 𝕄) : bigSep Finset.univ Φ
    = iprop((bigSep Finset.univ fun t : Fin 32 => Φ (.inl t)) ∗ (bigSep Finset.univ fun t : Fin 32 => Φ (.inr (.inl t))) ∗ bigSep Finset.univ fun t : Fin 8 => Φ (.inr (.inr t))) := by
  rw [bigSep_univ_sum, bigSep_univ_sum]; rfl

/-- Before the kernel starts: from buffers to chunks. -/
theorem bufs_start :
    iprop((((c : Thread nD τ).loc cc0_stg0_0) ↦{fullShare} xstg m c) ∗ (∃ f : Buf (Elt F) ((c : Thread nD τ).loc cc0_stg1_0), ((c : Thread nD τ).loc cc0_stg1_0) ↦{fullShare} f)
        ∗ (∃ f : Buf (Elt F) ((c : Thread nD τ).loc cc0_scratch0), ((c : Thread nD τ).loc cc0_scratch0) ↦{fullShare} f))
      ⊢ bigSep Finset.univ fun r : Reg => startSt m c r := by
  have eo (t : Fin 32) : startSt m c (.inl t) = ptAny c (.inl t) := if_neg fun ⟨i, h⟩ => nomatch h
  have ex (t : Fin 32) : startSt m c (.inr (.inl t)) = ptv m c (.inr (.inl t)) fullShare := if_pos ⟨t, rfl⟩
  have ez (t : Fin 8) : startSt m c (.inr (.inr t)) = ptAny c (.inr (.inr t)) := if_neg fun ⟨i, h⟩ => nomatch h
  rw [over_regs, bigSep_congr fun t _ => eo t, bigSep_congr fun t _ => (ex t).trans (xchunk m c t), bigSep_congr fun t _ => ez t,
    cut_eq (xS c) (xRo c) (xRo_lt c) (mem_xS c)]
  iintro ⟨Hx, Ho, Hz⟩
  isplitl [Ho]; · iapply (cut_any (F := F) (oS c) (oRo c) (oRo_lt c) (mem_oS c)); iexact Ho
  isplitl [Hx]; · iexact Hx
  iapply (cut_any (F := F) (zS c) (zRo c) (zRo_lt c) (mem_zS c)); iexact Hz

theorem lent_end : ∀ (c : Fin 8) (r : Reg) (b : Bool), ¬ lent c 124 r b := by decide +kernel

/-- At the end every chunk is in the device's hands. -/
theorem reg_end (r : Reg) : regSt m c 124 r ⊢ ptv m c r fullShare := by
  unfold regSt halfSt
  rw [if_pos (all_avail c r), if_neg (lent_end c r _), if_neg (lent_end c r _)]
  exact (ptv_halves m c r).2

omit [FloatOps F] in
theorem any_of_ptv [FloatOps F] (r : Reg) : ptv m c r fullShare ⊢ ptAny c r := by
  unfold ptAny ptv
  exact sProp.exists_intro (Φ := fun f => pt c r fullShare f) _

/-- When the kernel has ended: from chunks to buffers. -/
theorem bufs_end :
    (bigSep Finset.univ fun r : Reg => regSt m c 124 r)
      ⊢ iprop((((c : Thread nD τ).loc cc0_stg0_0) ↦{fullShare} xstg m c) ∗ (((c : Thread nD τ).loc cc0_stg1_0) ↦{fullShare} outAt m c)
        ∗ (∃ f : Buf (Elt F) ((c : Thread nD τ).loc cc0_scratch0), ((c : Thread nD τ).loc cc0_scratch0) ↦{fullShare} f)) := by
  haveI : Nonempty (Buf (Elt F) ((c : Thread nD τ).loc cc0_scratch0)) := ⟨m _⟩
  have hz : (bigSep Finset.univ fun t : Fin 8 => ptv m c (.inr (.inr t)) fullShare) ⊢ (iprop(∃ f : Buf (Elt F) ((c : Thread nD τ).loc cc0_scratch0), ((c : Thread nD τ).loc cc0_scratch0) ↦{fullShare} f) : sProp 𝕄) :=
    (bigSep_mono fun t _ => any_of_ptv m c (.inr (.inr t))).trans (join_any (F := F) (zS c) (zRo c) (zRo_lt c) (mem_zS c))
  have ho : (bigSep Finset.univ fun t : Fin 32 => ptv m c (.inl t) fullShare) = (((c : Thread nD τ).loc cc0_stg1_0) ↦{fullShare} outAt m c : sProp 𝕄) :=
    join_eq (oS c) (oRo c) (oRo_lt c) (mem_oS c) (outAt m c) (chunkAt m c) (outAt_on m c)
  have hx : (bigSep Finset.univ fun t : Fin 32 => ptv m c (.inr (.inl t)) fullShare) = (((c : Thread nD τ).loc cc0_stg0_0) ↦{fullShare} xstg m c : sProp 𝕄) := by
    rw [bigSep_congr fun t _ => xchunk m c t, ← cut_eq (xS c) (xRo c) (xRo_lt c) (mem_xS c)]
  have h1 : (bigSep Finset.univ fun r : Reg => regSt m c 124 r) ⊢ bigSep Finset.univ fun r : Reg => ptv m c r fullShare :=
    bigSep_mono fun r _ => reg_end m c r
  iintro H
  ihave H := h1 $$ H
  ihave H := (Entails.of_eq (over_regs fun r => ptv m c r fullShare)) $$ H
  icases H with ⟨Ho, Hx, Hz⟩
  isplitl [Hx]; · iapply (Entails.of_eq hx); iexact Hx
  isplitl [Ho]; · iapply (Entails.of_eq ho); iexact Ho
  iapply hz; iexact Hz

end Cert.Kernel.Pf
-- ==== Proof.Run.Body.lean ====
/-
# The kernel's body

From the staged argument and what the launch gives a device, to the staged result and every semaphore back at zero.
-/
module

public import proofs.«01_k».proof.Proof.Run.Whole
public import proofs.«01_k».proof.Proof.Run.Buffers

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-! ## The semaphores at the end -/

/-- Where a copy's end stands when the plan is over: past its one round if the copy was made. -/
theorem end_at (b : Bool) (j : J) :
    (if b then rcvSt (F := F) c 124 j else sndSt c 124 j) = atPos ER (kcell (c, some (b, j))) (if used c j = true then 1 else 0) ∅ 0 := by
  by_cases hu : used c j = true
  · have hS := tS_lt c j hu
    have hR := tR_lt c j hu
    have hV := tV_lt j (used_or c j hu)
    rw [if_pos hu]
    cases b
    · show sndSt c 124 j = _
      unfold sndSt
      rw [if_pos hu, if_neg (by omega), if_neg (by omega)]
    · show rcvSt c 124 j = _
      unfold rcvSt
      rw [if_pos hu, if_neg (by omega)]
  · rw [if_neg hu]
    cases b
    · show sndSt c 124 j = _
      unfold sndSt
      rw [if_neg hu]
    · show rcvSt c 124 j = _
      unfold rcvSt
      rw [if_neg hu]

/-- A copy's semaphore at the end reads zero. -/
theorem zero_at (b : Bool) (j : J) :
    iprop(recs m K ∗ (if b then rcvSt (F := F) c 124 j else sndSt c 124 j)) ⊢ |={Set.univ}=> semVal (kcell (c, some (b, j))) 0 := by
  have hd : ∀ r, (if used c j = true then 1 else 0) ≤ r → (Rd (F := F) m).duties (kcell (c, some (b, j))) r = ∅ := by
    by_cases hu : used c j = true
    · rw [if_pos hu]; exact duties_later m _
    · rw [if_neg hu]; exact duties_unused m c j b hu
  rw [end_at]
  iintro ⟨H, Hat⟩
  iapply (Rounds.cell_close ER (Rd m) (Set.mem_univ (K (c, some (b, j)))) (fun h => h) hd)
  isplitl [H]; · iapply (recs_inv m K (c, some (b, j))); iexact H
  iexact Hat

/-- So do all of them. -/
theorem zero_all :
    iprop(recs m K ∗ (bigSep Finset.univ fun j : J => sndSt (F := F) c 124 j) ∗ bigSep Finset.univ fun j : J => rcvSt (F := F) c 124 j)
      ⊢ |={Set.univ}=> bigSep Finset.univ fun p : Bool × J => semVal (kcell (c, some p)) 0 := by
  have e : (bigSep Finset.univ fun p : Bool × J => if p.1 then rcvSt (F := F) c 124 p.2 else sndSt c 124 p.2)
      = iprop((bigSep Finset.univ fun j : J => sndSt (F := F) c 124 j) ∗ bigSep Finset.univ fun j : J => rcvSt (F := F) c 124 j) := by
    rw [bigSep_univ_prod, bigSep_univ_eq_bigSepL [false, true] (by decide) (by decide)]; rfl
  rw [← e]
  exact (BI.bigSep_with_persistent fun p _ => zero_at m K c p.1 p.2).trans (bigSep_fupd _ _)

/-- And the barrier. -/
theorem zero_bar : iprop(recs m K ∗ atPos ER (barCell c) 1 ∅ 0) ⊢ |={Set.univ}=> semVal (barCell c) 0 := by
  iintro ⟨H, Hat⟩
  iapply (Rounds.cell_close ER (Rd m) (Set.mem_univ (K (c, none))) (fun h => h) (R := 1) (duties_later m (barCell c)))
  isplitl [H]; · iapply (recs_inv m K (c, none)); iexact H
  iexact Hat

/-- Nothing is owed at the end. -/
theorem owed_none : owedAt c 124 = 0 := by
  unfold owedAt
  refine Finset.sum_eq_zero fun j _ => if_neg fun h => ?_
  have := tS_lt c j h.1
  omega

/-! ## Before and after -/

/-- What the launch gives a device, apart from buffers. -/
def Lin : sProp 𝕄 :=
  iprop(recs m K ∗ (atPos ER (barCell c) 0 ∅ 0 ∗ cred (tallyAt (barCell c) () 3))
    ∗ (bigSep Finset.univ fun a : D => dutyTok ER (barCell (nb a c)) 0 a)
    ∗ (bigSep Finset.univ fun j : J => sndPre c j) ∗ (bigSep Finset.univ fun j : J => rcvSt c 0 j))

/-- A whole buffer that holds something. -/
def anyBuf (b : Ref sig .tc) : sProp 𝕄 := iprop(∃ f : Buf (Elt F) ((c : Thread nD τ).loc b), ((c : Thread nD τ).loc b) ↦{fullShare} f)

/-- All semaphores at zero. -/
def zeros : sProp 𝕄 := iprop((bigSep Finset.univ fun p : Bool × J => semVal (kcell (c, some p)) 0) ∗ semVal (barCell c) 0)

/-- What a device has when its kernel has ended. -/
def Done : sProp 𝕄 :=
  iprop(anyBuf (F := F) c cc0_scratch0 ∗ zeros c ∗ (∃ W, owes (c : Thread nD τ) (0 : CellTallies nD τ sig Unit) W)
    ∗ (((c : Thread nD τ).loc cc0_stg0_0) ↦{fullShare} xstg m c) ∗ (((c : Thread nD τ).loc cc0_stg1_0) ↦{fullShare} outAt m c))

/-- The last step's state is that. -/
theorem full_done : iprop(atPos ER (barCell c) 1 ∅ 0 ∗ Full m K c 124) ⊢ |={Set.univ}=> Done m c := by
  unfold Full
  rw [owed_none]
  iintro ⟨Hb, #HI, Hs, Hr, Hreg, HO⟩
  imod (zero_all m K c) $$ [Hs Hr] with HZ
  · isplitr; · iexact HI
    isplitl [Hs] <;> iassumption
  imod (zero_bar m K c) $$ [Hb] with HB
  · isplitr; · iexact HI
    iexact Hb
  imodintro
  ihave Hreg := (bufs_end m c) $$ Hreg
  icases Hreg with ⟨Hx, Ho, Hz⟩
  unfold Done zeros anyBuf
  isplitl [Hz]; · iexact Hz
  isplitl [HZ HB]; · isplitl [HZ] <;> iassumption
  isplitl [HO]; · iexact HO
  isplitl [Hx] <;> iassumption

/-- From whole buffers to chunks. -/
theorem gate_of_bufs :
    iprop(Lin m K c ∗ (∃ W, owes (c : Thread nD τ) (O₀ c) W) ∗ (((c : Thread nD τ).loc cc0_stg0_0) ↦{fullShare} xstg m c)
        ∗ anyBuf (F := F) c cc0_stg1_0 ∗ anyBuf (F := F) c cc0_scratch0)
      ⊢ Gate m K c := by
  unfold Lin Gate anyBuf
  iintro ⟨⟨HI, Hb, Ht, Hs, Hr⟩, HO, Hx, Ho, Hz⟩
  isplitl [HI]; · iexact HI
  isplitl [HO]; · iexact HO
  isplitl [Hb]; · iexact Hb
  isplitl [Ht]; · iexact Ht
  isplitl [Hs]; · iexact Hs
  isplitl [Hr]; · iexact Hr
  iapply (bufs_start m c)
  isplitl [Hx]; · iexact Hx
  isplitl [Ho] <;> iassumption

/-- A run whose end leads, without further steps, to another end. -/
theorem run_then {α : Type} {P : sProp 𝕄} {Q : α → sProp 𝕄} {R : sProp 𝕄} {k : Prog (TpuEff nD τ sig (Elt F) Λ₀ .tc) α}
    (h : P ⊢ Goes c k Q) (hQ : ∀ a, Q a ⊢ |={Set.univ}=> R) : P ⊢ WP c k (fun _ => R) := by
  unfold Goes at h
  exact h.trans ((wp_mono _ _ _ hQ).trans (wp_fupd _ _ _ _ _))

/-- The kernel's body, from whole buffers to whole buffers. -/
theorem kernel_run {h0 h1 h2} :
    iprop(Lin m K c ∗ (∃ W, owes (c : Thread nD τ) (O₀ c) W) ∗ (((c : Thread nD τ).loc cc0_stg0_0) ↦{fullShare} xstg m c)
        ∗ anyBuf (F := F) c cc0_stg1_0 ∗ anyBuf (F := F) c cc0_scratch0)
      ⊢ WP c (cc0_body xM h0 oM h1 zM h2 cc0_scratch1 cc0_scratch2 cc0_scratch3 cc0_scratch4 cc0_scratch5 cc0_scratch6) (fun _ => Done m c) := by
  rw [cc0_body_eq_skeleton]
  exact run_then c ((gate_of_bufs m K c).trans (whole_run m K c)) fun _ => full_done m K c

/-! ## The body as the launch asks for it -/

/-- Before the body. -/
def Φ₀ : sProp 𝕄 := iprop((∃ K, Lin m K c) ∗ anyBuf (F := F) c cc0_scratch0)
/-- After it. -/
def Φ₁ : sProp 𝕄 := iprop(anyBuf (F := F) c cc0_scratch0 ∗ zeros c)

/-- The state before `@main`. -/
abbrev s₀ (ρ : Dev nD → PrngReg) : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetched (t : Fin cfg0.N) : (cfg0.win (0 : Fin 2)).fetch t = true := by rw [fin_N0 t]; rfl

omit [FloatOps F] in
/-- To own a whole buffer with given contents. -/
theorem owns_buf (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ (F := F) c ∗ (dats m 0 c).owesAt () (t0_0 : Fin cfg0.N).succ ∗ stg c cc0_stg0_0 (xstg m c) ∗ stg c cc0_stg1_0 (outAt m c))

theorem pre_split : bodyPre m c ⊢ iprop(∃ K, Lin m K c ∗ (∃ W, owes (c : Thread nD τ) (O₀ c) W) ∗ (((c : Thread nD τ).loc cc0_stg0_0) ↦{fullShare} xstg m c)
        ∗ anyBuf (F := F) c cc0_stg1_0 ∗ anyBuf (F := F) c cc0_scratch0) := by
  unfold bodyPre Φ₀ Dat.owesAt Pipeline.owesWithin
  rw [show (dats m 0 c).owed (t0_0 : Fin cfg0.N).castSucc = O₀ c from rfl]
  iintro ⟨⟨⟨%K, HL⟩, Hz⟩, ⟨%W, %hW, HO⟩, ⟨%d0, %g0, %hg0, Hx⟩, ⟨%d1, %g1, %hg1, Ho⟩⟩
  have hx : g0 = xstg m c := by rw [hg0]; unfold Dat.before; rw [if_pos (fetched t0_0)]; rfl
  subst hx
  iexists K
  isplitl [HL]; · iexact HL
  isplitl [HO]; · iexists W; iexact HO
  isplitl [Hx]; · iexact Hx
  isplitl [Ho]; · unfold anyBuf; iexists g1; iexact Ho
  iexact Hz

theorem post_join : Done m c ⊢ bodyPost m c := by
  unfold Done bodyPost Φ₁ Dat.owesAt Pipeline.owesWithin
  rw [show (dats m 0 c).owed (t0_0 : Fin cfg0.N).succ = 0 from rfl]
  iintro ⟨Hz, HZ, ⟨%W, HO⟩, Hx, Ho⟩
  isplitl [Hz HZ]; · isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body meets what the launch asks of it. -/
theorem body_run : bodyPre m c ⊢ WP c (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6) (fun _ => bodyPost m c) := by
  refine (pre_split m c).trans ?_
  iintro ⟨%K, H⟩
  iapply ((kernel_run m K c).trans (wp_mono _ _ _ fun _ => post_join m c)) $$ H

set_option maxRecDepth 4000 in
theorem body_obligation : BodyObligation (dats (F := F) m 0 c) (defs₀ (F := F)) 𝒱₀ () Set.univ := fun t => by
  rw [fin_N0 t]
  rw [bigSep_W0, bigSep_W0]
  simp only [owns_buf]
  exact body_run m c

end Cert.Kernel.Pf
-- ==== Proof.Run.Launch.lean ====
/-
# The launch

The semaphores and the rights over them, dealt to the eight devices; what each device may count on receiving; and the run of
`@main` from any memory, on all devices together.
-/
module

public import proofs.«01_k».proof.Proof.Run.Body
public import Idealize.ShloMosaic.Lib.Pipeline.CollectiveSegs

@[expose] public section

noncomputable section

namespace Cert.Kernel.Pf

open Cert.Kernel Cert.Kernel.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device may count on -/

/-- A copy's end is not the barrier. -/
theorem ends_not_bar {p : Bool × J} (h : (some p : CK) = none) : False := nomatch h

/-- What device `d` owes the arrival of copy `j` on device `c`. -/
theorem owes_recv (d c : Dev nD) (j : J) : O₀ d (rCell c j) () = if d = pr j c ∧ used c j = true then N else 0 := by
  have hb (a : D) : tallyAt (barCell (nb a d)) () 1 (rCell c j) = (0 : Unit →₀ ℕ) :=
    tallyAt_ne_cell (fun h => ends_not_bar (congrArg Prod.snd (kcell_inj h))) _ _
  unfold O₀ O₂ O₁
  rw [Pi.add_apply, Pi.add_apply, Pi.add_apply, hb, hb, hb, add_zero, add_zero, add_zero]
  unfold owedAt
  rw [Finset.sum_apply, Finsupp.finset_sum_apply, Finset.sum_eq_single j]
  · by_cases hd : d = pr j c
    · subst hd
      by_cases hu : used c j = true
      · rw [if_pos ⟨(used_pr c j).trans hu, Nat.zero_le _⟩, if_pos ⟨rfl, hu⟩, tallyAt_apply, if_pos ⟨by rw [pr_pr], rfl⟩]
      · rw [if_neg fun h => hu ((used_pr c j).symm.trans h.1), if_neg fun h => hu h.2]; rfl
    · rw [if_neg (c := d = pr j c ∧ used c j = true) fun h => hd h.1]
      by_cases hu : used d j = true ∧ 0 ≤ tS d j
      · rw [if_pos hu, tallyAt_apply, if_neg]
        rintro ⟨h, -⟩
        have hc : c = pr j d := congrArg Prod.fst (kcell_inj h)
        exact hd (by rw [hc, pr_pr])
      · rw [if_neg hu]; rfl
  · intro j' _ hj
    by_cases hu : used d j' = true ∧ 0 ≤ tS d j'
    · rw [if_pos hu, tallyAt_apply, if_neg]
      rintro ⟨h, -⟩
      have hc : some (true, j) = some (true, j') := congrArg Prod.snd (kcell_inj h)
      exact hj (congrArg Prod.snd (Option.some.inj hc)).symm
    · rw [if_neg hu]; rfl
  · intro h; exact absurd (Finset.mem_univ j) h

/-- What it owes the barrier of device `c`. -/
theorem owes_bar (d c : Dev nD) : O₀ d (barCell c) () = (if d = nb 2 c then 1 else 0) + (if d = nb 1 c then 1 else 0) + (if d = nb 0 c then 1 else 0) := by
  have h0 : owedAt d 0 (barCell c) () = 0 := by
    by_contra h
    obtain ⟨j, -, -, e⟩ := owedAt_pos (Nat.pos_of_ne_zero h)
    exact ends_not_bar (congrArg Prod.snd (kcell_inj e)).symm
  have hb (a : D) : tallyAt (barCell (nb a d)) () 1 (barCell c) () = if d = nb a c then 1 else 0 := by
    rw [tallyAt_apply]
    refine if_congr ⟨fun h => ?_, fun h => ?_⟩ rfl rfl
    · have hc : c = nb a d := congrArg Prod.fst (kcell_inj h.1)
      rw [hc, nb_nb]
    · subst h; exact ⟨by rw [nb_nb], rfl⟩
  unfold O₀ O₂ O₁
  rw [Pi.add_apply, Pi.add_apply, Pi.add_apply, Finsupp.add_apply, Finsupp.add_apply, Finsupp.add_apply, h0, hb, hb, hb, zero_add]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib, Finset.sum_add_distrib,
    Finset.sum_ite_eq' Finset.univ (nb 0 c) fun _ => 1, Finset.sum_ite_eq' Finset.univ (nb 1 c) fun _ => 1, Finset.sum_ite_eq' Finset.univ (nb 2 c) fun _ => 1,
    if_pos (Finset.mem_univ _), if_pos (Finset.mem_univ _), if_pos (Finset.mem_univ _)]

theorem credit_recv (c : Dev nD) (j : J) (hu : used c j = true) :
    tallyOn (rCell c j) (launchCredit (Pipeline.owing O₀) 0 (rCell c j)) = (tallyAt (rCell c j) () N : CellTallies nD τ sig Unit) := by
  unfold tallyAt; refine congrArg _ (Finsupp.ext fun u => ?_); cases u
  have e (d : Dev nD) : O₀ d (rCell c j) () = if d = pr j c then N else 0 := by
    rw [owes_recv]; exact if_congr ⟨fun h => h.1, fun h => ⟨h, hu⟩⟩ rfl rfl
  rw [Pipeline.launchCredit_owing, Finsupp.single_eq_same, Finset.sum_congr rfl fun d _ => e d, Finset.sum_ite_eq' Finset.univ (pr j c) fun _ => N,
    if_pos (Finset.mem_univ _)]

/-- The credit of one of a device's semaphores. -/
def credOf (c : Dev nD) (sm : SemLoc sig) : sProp 𝕄 :=
  cred (tallyOn ((c : Thread nD τ), sm) (launchCredit (Pipeline.owing O₀) 0 ((c : Thread nD τ), sm)))

omit [FloatOps F] in
theorem credOf_bar (c : Dev nD) : (credOf c (csem none) : sProp 𝕄) = cred (tallyAt (barCell c) () 3) := by
  have h := credit_bar c
  unfold credOf; exact congrArg cred h
omit [FloatOps F] in
theorem credOf_recv (c : Dev nD) (j : J) (hu : used c j = true) : (credOf c (csem (some (true, j))) : sProp 𝕄) = cred (tallyAt (rCell c j) () N) :=
  congrArg cred (credit_recv c j hu)

/-- The semaphores of the arrivals a device waits for. -/
def arrivals (c : Dev nD) : Finset (SemLoc sig) := (Finset.univ.filter fun j : J => used c j = true).image fun j : J => csem (some (true, j))

theorem arrivals_not (c : Dev nD) : csem none ∉ arrivals c := by
  intro hs
  obtain ⟨j, -, e⟩ := Finset.mem_image.mp hs
  exact ends_not_bar (csem_inj e)

omit [FloatOps F] in
theorem arrivals_cred (c : Dev nD) :
    bigSep (arrivals c) (fun sm => (credOf c sm : sProp 𝕄)) = bigSep Finset.univ fun j : J => if used c j = true then cred (tallyAt (rCell c j) () N) else iprop(emp) := by
  have hinj : Set.InjOn (fun j : J => csem (some (true, j))) (Finset.univ.filter fun j : J => used c j = true) := fun i _ j _ h =>
    congrArg Prod.snd (Option.some.inj (csem_inj h))
  unfold arrivals
  rw [bigSep_image_of_injOn hinj, bigSep_congr fun j hj => credOf_recv c j (Finset.mem_filter.mp hj).2]
  exact bigSep_filter Finset.univ (fun j : J => used c j = true) fun j => cred (tallyAt (rCell c j) () N)

omit [FloatOps F] in
/-- Of a family, one member and some others may be kept alone. -/
theorem keep {I : Type} [Fintype I] [DecidableEq I] (i : I) (T : Finset I) (h : i ∉ T) (Φ : I → sProp 𝕄) : bigSep Finset.univ Φ ⊢ iprop(Φ i ∗ bigSep T Φ) := by
  rw [bigSep_univ_at Φ i]
  exact sep_mono_right (BI.bigSep_subset fun t ht => Finset.mem_erase.mpr ⟨fun (e : t = i) => h (e ▸ ht), Finset.mem_univ t⟩)

omit [FloatOps F] in
/-- A device's credit at launch: three units of its barrier, and every arrival. -/
theorem credits (c : Dev nD) :
    (Pipeline.launchCred O₀ c : sProp 𝕄)
      ⊢ iprop(cred (tallyAt (barCell c) () 3) ∗ bigSep Finset.univ fun j : J => if used c j = true then cred (tallyAt (rCell c j) () N) else iprop(emp)) := by
  have h : (Pipeline.launchCred O₀ c : sProp 𝕄) = bigSep Finset.univ (credOf c) := rfl
  rw [h, ← credOf_bar, ← arrivals_cred]
  exact keep (csem none) (arrivals c) (arrivals_not c) (credOf c)

/-! ## The semaphores and the rights over them -/

/-- The kernel's own semaphores. -/
def osem (p : Bool × J) : SemLoc sig := .dma (dsem p.1 p.2)
theorem ownSemFacts : Pipeline.OwnSemFacts cfg0.spec osem := by decide +kernel

theorem share_full (c : Dev nD) (w : Fin cfg0.W) : (dats m 0 c).share w = fullShare := by unfold Dat.share; split <;> rfl

def cellSet : Finset (GSem nD τ sig) := Finset.univ.map ⟨kcell, kcell_inj⟩

/-- The units a device's semaphores get: the barrier one for each axis, the two ends of each copy one. -/
abbrev Unit' : Type := D ⊕ (Bool × J)
def tokOf (p : Dev nD × Unit') : GSem nD τ sig × ℕ × D := match p.2 with
  | .inl a => (barCell p.1, 0, a)
  | .inr q => (kcell (p.1, some q), 0, 0)
theorem tokOf_inj : Function.Injective tokOf := by
  rintro ⟨c, a | q⟩ ⟨c', a' | q'⟩ h
  · have h1 := kcell_inj (congrArg Prod.fst h)
    have h2 : a = a' := congrArg (fun x : GSem nD τ sig × ℕ × D => x.2.2) h
    cases h1; subst h2; rfl
  · exact nomatch (congrArg Prod.snd (kcell_inj (congrArg Prod.fst h)) : none = some q')
  · exact nomatch (congrArg Prod.snd (kcell_inj (congrArg Prod.fst h)) : some q = none)
  · have h1 := kcell_inj (congrArg Prod.fst h)
    cases h1; rfl
def tokSet : Finset (GSem nD τ sig × ℕ × D) := Finset.univ.map ⟨tokOf, tokOf_inj⟩

def u₀ : UU := (initOf (Pipeline.cells cfgs cellOf_inj) (Pipeline.launchToks cfgs cellOf_inj), initOf cellSet tokSet)

/-- The tokens of a device's own semaphores. -/
def toks (c : Dev nD) : sProp 𝕄 :=
  iprop((bigSep Finset.univ fun a : D => dutyTok ER (barCell c) 0 a)
    ∗ (bigSep Finset.univ fun j : J => dutyTok ER (sCell c j) 0 (0 : D)) ∗ bigSep Finset.univ fun j : J => dutyTok ER (rCell c j) 0 (0 : D))
/-- The tokens a device pays with. -/
def pays (c : Dev nD) : sProp 𝕄 :=
  iprop((bigSep Finset.univ fun a : D => dutyTok ER (barCell (nb a c)) 0 a)
    ∗ (bigSep Finset.univ fun j : J => dutyTok ER (sCell c j) 0 (0 : D)) ∗ bigSep Finset.univ fun j : J => dutyTok ER (rCell (pr j c) j) 0 (0 : D))

omit [FloatOps F] in
/-- A family over the two ends of all copies. -/
theorem over_ends (Φ : Bool × J → sProp 𝕄) :
    bigSep Finset.univ Φ = iprop((bigSep Finset.univ fun j : J => Φ (false, j)) ∗ bigSep Finset.univ fun j : J => Φ (true, j)) := by
  rw [bigSep_univ_prod, bigSep_univ_eq_bigSepL [false, true] (by decide) (by decide)]; rfl

omit [FloatOps F] in
/-- A family over a device's semaphores. -/
theorem over_cells (Φ : CK → sProp 𝕄) : bigSep Finset.univ Φ = iprop(Φ none ∗ bigSep Finset.univ fun p : Bool × J => Φ (some p)) := by
  have e : (Finset.univ.erase (none : CK)) = Finset.univ.map Function.Embedding.some := by
    ext x; cases x <;> simp
  rw [bigSep_univ_at _ none, e, bigSep_map]; rfl

omit [FloatOps F] in
/-- The tokens dealt to the devices that pay with them. -/
theorem deal : (bigSep Finset.univ fun c : Dev nD => (toks c : sProp 𝕄)) = bigSep Finset.univ fun c : Dev nD => pays c := by
  have hb : (bigSep Finset.univ fun c : Dev nD => bigSep Finset.univ fun a : D => (dutyTok ER (barCell c) 0 a : sProp 𝕄))
      = bigSep Finset.univ fun c : Dev nD => bigSep Finset.univ fun a : D => dutyTok ER (barCell (nb a c)) 0 a := by
    rw [BI.bigSep_univ_comm, BI.bigSep_univ_comm (fun (c : Dev nD) (a : D) => (dutyTok ER (barCell (nb a c)) 0 a : sProp 𝕄))]
    exact bigSep_congr fun a _ => bigSep_univ_equiv (Function.Involutive.toPerm (nb a) (nb_nb a)) fun c : Dev nD => (dutyTok ER (barCell c) 0 a : sProp 𝕄)
  have hr : (bigSep Finset.univ fun c : Dev nD => bigSep Finset.univ fun j : J => (dutyTok ER (rCell c j) 0 (0 : D) : sProp 𝕄))
      = bigSep Finset.univ fun c : Dev nD => bigSep Finset.univ fun j : J => dutyTok ER (rCell (pr j c) j) 0 (0 : D) := by
    rw [BI.bigSep_univ_comm, BI.bigSep_univ_comm (fun (c : Dev nD) (j : J) => (dutyTok ER (rCell (pr j c) j) 0 (0 : D) : sProp 𝕄))]
    exact bigSep_congr fun j _ => bigSep_univ_equiv (Function.Involutive.toPerm (pr j) (pr_pr j)) fun c : Dev nD => (dutyTok ER (rCell c j) 0 (0 : D) : sProp 𝕄)
  unfold toks pays
  rw [bigSep_sep', bigSep_sep', bigSep_sep', bigSep_sep', hb, hr]

/-- What a device gets of the initial rights. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- The invariants at all semaphores, and that their only round is open. -/
def facts (K : Dev nD × CK → ℕ) : sProp 𝕄 :=
  iprop((bigSep Finset.univ fun p : Dev nD × CK => cellInv ER (Rd m) (K p) (kcell p))
    ∗ bigSep Finset.univ fun p : Dev nD × CK => reached ER (kcell p) 0)
instance facts_persistent (K : Dev nD × CK → ℕ) : BI.Persistent (facts (F := F) m K) := by unfold facts; infer_instance

/-- What a device has once all semaphores are set up. -/
def G' (c : Dev nD) : sProp 𝕄 := iprop(∃ K, facts m K ∗ (bigSep Finset.univ fun k : CK => atPos ER (kcell (c, k)) 0 ∅ 0) ∗ pays c)

/-- The initial rights, device by device. -/
theorem fund_all : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by rw [bigSep_univ_sum, over_ends]; rfl
  iintro HX
  imod (Rounds.fund ER (Rd m) cellSet tokSet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch's one semaphore that is not scoped is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's semaphores at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscoped_eq, over_cells]
  exact BI.sep_comm

/-- The agreement comes into force at a device's semaphores. -/
theorem set_up (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  have halloc : iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod halloc $$ [Hv Hst] with Hinv
  · isplitl [Hv] <;> iassumption
  imodintro
  isplitl [Hinv]; · iexact Hinv
  isplitl [Hat] <;> iassumption

/-- Each device gets all the facts, its positions, and the tokens it pays with. -/
theorem share_out :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  have hone (K : Dev nD × CK → ℕ) (c : Dev nD) : iprop(facts m K ∗ (bigSep Finset.univ fun k : CK => atPos ER (kcell (c, k)) 0 ∅ 0) ∗ pays c) ⊢ G' m c := by
    unfold G'
    exact sProp.exists_intro (Φ := fun K => iprop(facts m K ∗ (bigSep Finset.univ fun k : CK => atPos ER (kcell (c, k)) 0 ∅ 0) ∗ pays c)) K
  have hall (K : Dev nD × CK → ℕ) : iprop(facts m K ∗ bigSep Finset.univ fun c : Dev nD => iprop((bigSep Finset.univ fun k : CK => atPos ER (kcell (c, k)) 0 ∅ 0) ∗ pays c))
      ⊢ bigSep Finset.univ (G' m) := BI.bigSep_with_persistent fun c _ => hone K c
  rw [bigSep_sep', bigSep_sep', ← bigSep_univ_prod (fun p : Dev nD × CK => iprop(∃ κ : ℕ, cellInv ER (Rd m) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄)), deal]
  iintro ⟨HI, ⟨Hat, #HR⟩, Htok⟩
  ihave HK := (BI.bigSep_exists_pi Finset.univ (fun (p : Dev nD × CK) (κ : ℕ) => (cellInv ER (Rd m) κ (kcell p) : sProp 𝕄))) $$ HI
  icases HK with ⟨%K, #HI⟩
  iapply (hall K)
  isplitr
  · unfold facts; isplitl; · iexact HI
    iexact HR
  · rw [bigSep_sep']
    isplitl [Hat] <;> iassumption

/-- Every device's semaphores set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => set_up m c).trans (bigSep_fupd _ _)).trans (BI.fupd_mono (share_out m))

/-! ## From the launch to the body and back -/

omit [FloatOps F] in
/-- The sending ends at launch. -/
theorem snds_pre (c : Dev nD) :
    iprop((bigSep Finset.univ fun j : J => (atPos ER (sCell c j) 0 ∅ 0 : sProp 𝕄)) ∗ (bigSep Finset.univ fun j : J => dutyTok ER (sCell c j) 0 (0 : D))
        ∗ bigSep Finset.univ fun j : J => dutyTok ER (rCell (pr j c) j) 0 (0 : D))
      ⊢ bigSep Finset.univ fun j : J => sndPre (F := F) c j := by
  have h (j : J) : iprop((atPos ER (sCell c j) 0 ∅ 0 : sProp 𝕄) ∗ dutyTok ER (sCell c j) 0 (0 : D) ∗ dutyTok ER (rCell (pr j c) j) 0 (0 : D)) ⊢ sndPre (F := F) c j := by
    unfold sndPre
    by_cases hu : used c j = true
    · rw [if_pos hu]
    · rw [if_neg hu]
      iintro ⟨H, -⟩
      isplitl; · iexact H
      iempintro
  rw [← bigSep_sep', ← bigSep_sep']
  exact bigSep_mono fun j _ => h j

omit [FloatOps F] in
/-- The receiving ends at launch. -/
theorem rcvs_pre (c : Dev nD) :
    iprop((bigSep Finset.univ fun j : J => (atPos ER (rCell c j) 0 ∅ 0 : sProp 𝕄))
        ∗ bigSep Finset.univ fun j : J => if used c j = true then cred (tallyAt (rCell c j) () N) else iprop(emp))
      ⊢ bigSep Finset.univ fun j : J => rcvSt (F := F) c 0 j := by
  have h (j : J) : iprop((atPos ER (rCell c j) 0 ∅ 0 : sProp 𝕄) ∗ if used c j = true then cred (tallyAt (rCell c j) () N) else iprop(emp)) ⊢ rcvSt (F := F) c 0 j := by
    unfold rcvSt
    by_cases hu : used c j = true
    · rw [if_pos hu, if_pos hu, if_pos (Nat.zero_le _)]
    · rw [if_neg hu, if_neg hu]
      iintro ⟨H, -⟩; iexact H
  rw [← bigSep_sep']
  exact bigSep_mono fun j _ => h j

/-- What a device's body starts from. -/
def start (c : Dev nD) : sProp 𝕄 := iprop(∃ K, Lin m K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hat := (over_cells (F := F) fun k : CK => atPos ER (kcell (c, k)) 0 ∅ 0).trans
    (congrArg (fun P : sProp 𝕄 => iprop(atPos ER (kcell (c, none)) 0 ∅ 0 ∗ P)) (over_ends (F := F) fun p => atPos ER (kcell (c, some p)) 0 ∅ 0))
  unfold G' facts pays start Lin recs
  iintro ⟨-, Hlev, Hcr, -, ⟨%K, ⟨HI, HR⟩, Hat, Hb, Hs, Hr⟩⟩
  ihave Hc := (credits (F := F) c) $$ Hcr
  icases Hc with ⟨Hc3, HcN⟩
  ihave Hat := (Entails.of_eq hat) $$ Hat
  icases Hat with ⟨HaB, HaS, HaR⟩
  imodintro
  isplitl
  · iexists K
    isplitl [HI HR Hlev]
    · isplitl [HI]; · iexact HI
      isplitl [HR] <;> iassumption
    isplitl [HaB Hc3]; · isplitl [HaB] <;> iassumption
    isplitl [Hb]; · iexact Hb
    isplitl [HaS Hs Hr]
    · iapply (snds_pre (F := F) c)
      isplitl [HaS]; · iexact HaS
      isplitl [Hs] <;> iassumption
    iapply (rcvs_pre (F := F) c)
    isplitl [HaR] <;> iassumption
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start anyBuf
  iintro ⟨Hs, -, Hr⟩
  isplitl [Hs] <;> iassumption

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscoped_eq]
  unfold Φ₁ zeros anyBuf Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On eight devices, from any memory with every semaphore at zero, every fair execution of `@main` ends, with each
    device's arrays at the computed contents and every semaphore at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_arg (c : Dev nD) : finalA m c (0 : Fin 2) = m (win0_0.arr.view.loc (c : Thread nD τ)) :=
  (dats (F := F) m 0 c).arrAt_in (0 : Fin 2) rfl _

end Cert.Kernel.Pf
-- ==== Proof.Run.Final.lean ====
/-
# What the arrays hold after the run

The run of `@main`, read at each device's argument and result arrays.
-/
module

public import proofs.«01_k».proof.Proof.Run.Launch

@[expose] public section

noncomputable section

namespace Cert.Kernel.Pf

open Cert.Kernel Cert.Kernel.Gen Cert.Plan
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The result window is the whole result array: what the body left staged is what the array holds. -/
theorem finalA_res (c : Dev nD) : finalA m c (1 : Fin 2) = outAt m c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (hr _).symm.trans ho

/-- The argument window is the whole argument array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Every fair execution ends, with each device's result array at the computed value, its argument array as it was, and
    every semaphore at zero. -/
theorem final : θ_run defs (onTc (τ := τ) (main (F := F))) ⟨m, fun _ => 0, ρ⟩ fun r =>
    (∀ c : Dev nD, r.2.mem ((c : Thread nD τ).loc main_v1) = outAt m c ∧ r.2.mem ((c : Thread nD τ).loc main_arg0) = m ((c : Thread nD τ).loc main_arg0))
      ∧ r.2.sem = fun _ => 0 :=
  (θ_run defs _ _).mono (fun _ h => ⟨fun c => ⟨(h.1 c (1 : Fin 2)).trans (finalA_res m c), (h.1 c (0 : Fin 2)).trans (finalA_arg m c)⟩, h.2⟩) (run_main m ρ)

end Cert.Kernel.Pf
-- ==== Proof.Ideal.lean ====
/-
# The program read at exact arithmetic runs the same way

`Cert.KernelIdeal` is the text of `Cert.Kernel` with no operation replaced, so one run serves both. Only the tables of kernel
bodies are stated by separate case distinctions, which are the same function.
-/
module

public import proofs.«01_k».proof.Proof.Run.Final
public import proofs.«01_k».proof.Proof.Gen.KernelIdeal

@[expose] public section

noncomputable section

namespace Cert.KernelIdeal.Pf

open Cert.KernelIdeal
open Idealize.ShloMosaic
open Idealize.ShloMosaic.TcCoe
open Idealize.SL.Sem

variable {F : FTy → Type} [FloatOps F]

/-- The two programs' kernel bodies are the same; -/
theorem bodies_eq : defs₀ (F := F) = Cert.Kernel.defs₀ := by
  unfold defs₀ Cert.Kernel.defs₀
  refine congrArg Defs.onTc ?_
  funext l a
  match l, a with
  | 0, (t, s) => rfl

/-- and so are their tables of regions. -/
theorem tables_eq : defs (F := F) = Cert.Kernel.defs := congrArg (Pipeline.defs (Cert.Kernel.pcfgs (F := F))) bodies_eq

variable (m : (ℓ : Loc nD τ sig) → Buf (Elt F) ℓ) (ρ : Dev nD → PrngReg)

/-- Every fair execution ends, with each device's result array at the computed value, its argument array as it was, and
    every semaphore at zero. -/
theorem final : θ_run (defs (F := F)) (onTc (τ := τ) (main (F := F))) ⟨m, fun _ => 0, ρ⟩ fun r =>
    (∀ c : Dev nD, r.2.mem ((c : Thread nD τ).loc main_v1) = Cert.Kernel.Pf.outAt m c ∧ r.2.mem ((c : Thread nD τ).loc main_arg0) = m ((c : Thread nD τ).loc main_arg0))
      ∧ r.2.sem = fun _ => 0 := by
  rw [tables_eq]
  exact Cert.Kernel.Pf.final m ρ

end Cert.KernelIdeal.Pf

end
-- ==== Proof.Reference.lean ====
/-
# The reference program

One device over the whole 2048 × 512 array: view it as two halves of 1024 rows, and add the halves. Its three operations run
one after the other; in exact arithmetic the result at row `i`, column `j` is the array at row `i` plus the array at row
`1024 + i`.
-/
module

public import proofs.«01_k».proof.Proof.Gen.ReferenceIdeal
public import Idealize.ShloMosaic.Lib.StableHlo.Run
public import Idealize.ShloMosaic.Lib.IdealHost
public import Idealize.ShloMosaic.PureOps.Ideal.Laws
public import Idealize.ShloMosaic.Lib.Quiescent

@[expose] public section

noncomputable section

namespace Cert.ReferenceIdeal.Pf

open Cert.ReferenceIdeal Cert.ReferenceIdeal.Gen
open Idealize.ShloMosaic Idealize.ShloMosaic.TcCoe Idealize.ShloMosaic.StableHlo Idealize.SL.Sem

variable {F : FTy → Type} [FloatOps F]

/-- The sum of the two halves, as the program computes it. -/
def halves (x : FVec F S2048x512 .f32) : FVec F S1024x512 .f32 :=
  Host.reduceAdd (shapeCast S2x1024x512 x shapeCasts_S2048x512_S2x1024x512) (constant S_ .f32 0x00000000#32)
    reducesTo_S2x1024x512_S1024x512_d0 h_S_

/-- The three operations. -/
abbrev steps : List (HloOp τ sig (Elt F)) :=
  [ reshape main_arg0 main_v0 (rfl : (.f32 : EltTy) = .f32) shapeCasts_S2048x512_S2x1024x512,
    nullary main_cst (constant S_ .f32 0x00000000#32),
    binary main_v0 main_cst main_v1 ((fun x v => Host.reduceAdd x v reducesTo_S2x1024x512_S1024x512_d0 h_S_) :
      (⟨S2x1024x512, .f32⟩ : BufTy).Contents (Elt F) → (⟨S_, .f32⟩ : BufTy).Contents (Elt F) → (⟨S1024x512, .f32⟩ : BufTy).Contents (Elt F)) ]

/-- The program is these operations in order. -/
theorem main_steps (c : Dev nD) : main (F := F) c = seq steps := rfl

/-- The result array after the operations; -/
theorem after_result (V : Valuation τ sig (Elt F)) :
    after steps V (main_v1 : DevRef τ sig) = halves (V (main_arg0 : DevRef τ sig)) := by
  after_results
  rfl

/-- the argument is not written. -/
theorem after_arg (V : Valuation τ sig (Elt F)) : after steps V (main_arg0 : DevRef τ sig) = V (main_arg0 : DevRef τ sig) := by
  after_results

/-- No buffer and no semaphore is scoped. -/
theorem no_scoped_refs : (Finset.univ.filter fun b : Ref sig .tc => b.isScoped) = ∅ := by decide
theorem no_scoped_sems : (Finset.univ.filter fun s : SemLoc sig => s.isScoped .tc) = ∅ := by decide

/-- The operations touch the device's own buffers only. -/
theorem steps_bufs : (steps : List (HloOp τ sig (Elt F))).Forall fun op => op.bufs ⊆ tcRefs τ sig :=
  ⟨reshape_bufs_sub .., nullary_bufs_sub .., binary_bufs_sub ..⟩

/-- Every fair execution ends, with the result array at the sum of the halves, the argument array as it was, and every
    semaphore at zero. -/
theorem final (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = halves (m ((c : Thread nD τ).loc main_arg0))
        ∧ r.2.mem ((c : Thread nD τ).loc main_arg0) = m ((c : Thread nD τ).loc main_arg0))
      ∧ r.2.sem = fun _ => 0 :=
  (θ_run defs _ _).mono
    (fun r h => ⟨fun c => ⟨(h c main_v1).trans (after_result _), (h c main_arg0).trans (after_arg _)⟩,
      sem_eq_zero_of_no_sems (by decide) r.2⟩)
    (run_seq no_scoped_refs no_scoped_sems defs main (fun _ => steps) main_steps (fun _ => steps_bufs) m ρ)

/-! ## The value -/

/-- Row `i` of half `k` is row `1024 k + i` of the whole. -/
def half (k : Fin 2) (i : S1024x512.Idx) : S2048x512.Idx :=
  Shape.pair (d := ![2048, 512]) ⟨1024 * k.val + (i (0 : Fin 2)).val, by
      have h : (i (0 : Fin 2)).val < 1024 := (i (0 : Fin 2)).isLt
      show _ < 2048; omega⟩ (i (1 : Fin 2))

theorem reduces_rows : S2x1024x512.Reduces [0] S1024x512 := by decide

/-- An array of no axes has one place, at position 0. -/
theorem rank_zero (d : Fin 0 → ℕ) (x : (a : Fin 0) → Fin (d a)) : (Shape.rowMajorPi d x).val = 0 := by
  have h : (Shape.rowMajorPi d x).val < 1 := lt_of_lt_of_eq (Shape.rowMajorPi d x).isLt (Fin.prod_univ_zero _)
  omega

/-- Where the view as two halves reads the whole array. -/
theorem cast_half (x : FVec Ideal S2048x512 .f32) (i : S1024x512.Idx) (k : Fin 2) :
    shapeCast S2x1024x512 x shapeCasts_S2048x512_S2x1024x512 (reduces_rows.lift i k) = x (half k i) := by
  unfold shapeCast
  refine congrArg x (Shape.reshapeEquiv_eq_of_rowMajor _ ?_)
  show (Shape.rowMajorPi _ _).val = (Shape.rowMajorPi _ _).val
  simp only [Shape.rowMajorPi_succ_val, rank_zero, Nat.add_zero]
  show (1024 * k.val + (i (0 : Fin 2)).val) * (∏ a : Fin 1, ![512] a) + (i (1 : Fin 2)).val * (∏ a : Fin 0, ![] a)
    = k.val * (∏ a : Fin 2, ![1024, 512] a) + ((i (0 : Fin 2)).val * (∏ a : Fin 1, ![512] a) + (i (1 : Fin 2)).val * (∏ a : Fin 0, ![] a))
  simp only [Fin.prod_univ_zero, Fin.prod_univ_one, Fin.prod_univ_two, Matrix.cons_val_zero, Matrix.cons_val_one]
  omega

/-- In exact arithmetic the result is the sum of the two halves' rows. -/
theorem halves_apply (x : FVec Ideal S2048x512 .f32) (i : S1024x512.Idx) :
    halves x i = (x (half 0 i) + x (half 1 i) : EReal) := by
  unfold halves
  rw [ValueIdx.hostReduceAdd_apply, Ideal.hostReduceAdd_single _ reduces_rows]
  rw [show (constant (F := Ideal) S_ .f32 0x00000000#32) (Shape.Idx.first h_S_) = (0 : EReal) from Ideal.ofBits_zero_f32, zero_add]
  refine (Fin.sum_univ_two (M := EReal) _).trans ?_
  rw [← cast_half x i 0, ← cast_half x i 1]

end Cert.ReferenceIdeal.Pf

end
-- ==== Proof.Value.lean ====
/-
# The values agree

Every device's result is the reference's result. A device's chunk is the sum made on the device the chunk came from: of its
own rows and those of its neighbour along z. Of these two devices one holds the first half of the whole array and the other
the second, and the order of the two summands does not matter in exact arithmetic.
-/
module

public import proofs.«01_k».proof.Proof.Ideal
public import proofs.«01_k».proof.Proof.Reference
public import Idealize.ShloMosaic.Lib.Layout

@[expose] public section

noncomputable section

namespace Cert.Kernel.Pf

open Cert.Kernel Cert.Kernel.Gen Cert.Plan
open Idealize.ShloMosaic
open Idealize.ShloMosaic.TcCoe

variable {F : FTy → Type} [FloatOps F]
variable (m : (ℓ : Loc nD τ sig) → Buf (Elt F) ℓ) (c : Dev nD)

/-- A device's argument array. -/
def arg (d : Dev nD) : FVec F S1024x512 .f32 := m ((d : Thread nD τ).loc main_arg0)

/-- The place in the whole array of a place in a chunk. -/
def place (t : Fin 32) (x : S32x512.Idx) : S1024x512.Idx := (Rect.unit (s := S1024x512) ![32 * t.val, 0] S32x512.size (inb_big t)).emb x

/-- A chunk of the argument at a place. -/
theorem xv_apply (t : Fin 32) (x : S32x512.Idx) : xv m c t x = arg m c (place t x) := by
  unfold xv
  rw [xstg_eq]
  rfl

/-- The sum of two chunks at a place. -/
theorem sum_apply (a b : FVec F S32x512 .f32) (x : S32x512.Idx) : k0_pay1 a b x = FloatOps.addf (a x) (b x) := by
  show FloatOps.addf (shapeCast S32x512 a _ x) (b x) = _
  unfold shapeCast
  rw [Shape.reshapeEquiv_self]

/-- A chunk of the result at a place. -/
theorem chunkAt_apply (t : Fin 32) (x : S32x512.Idx) :
    chunkAt m c t (place t x) = FloatOps.addf (arg m (org c t) (place t x)) (arg m (zp (org c t)) (place t x)) := by
  have h := congrFun (View.read_write_univ (v := (ch (.inl t)).view) (Val := Elt F) (m ((c : Thread nD τ).loc cc0_stg1_0)) (val m (tag c (.inl t)))) x
  refine Eq.trans ?_ (h.trans ?_)
  · rfl
  · show k0_pay1 (xv m (org c t) t) (xv m (zp (org c t)) t) x = _
    rw [sum_apply, xv_apply, xv_apply]

/-- The result at a place is a sum of the arguments of two devices at that place, one the z neighbour of the other. -/
theorem outAt_apply (i : S1024x512.Idx) : ∃ d : Fin 8, outAt m c i = FloatOps.addf (arg m d i) (arg m (zp d) i) := by
  have hl : (i (0 : Fin 2)).val < 32 * 32 := (i (0 : Fin 2)).isLt
  let t : Fin 32 := ⟨(i (0 : Fin 2)).val / 32, by omega⟩
  have hi : i ∈ oS c t :=
    (mem_oS c t i).mpr ⟨by show 32 * ((i (0 : Fin 2)).val / 32) ≤ (i (0 : Fin 2)).val; omega,
      by show (i (0 : Fin 2)).val < 32 * ((i (0 : Fin 2)).val / 32) + 32; omega⟩
  obtain ⟨x, -, hx⟩ := Finset.mem_map.mp (show i ∈ Finset.univ.map (ch (.inl t)).view.emb from hi)
  have hx : place t x = i := hx
  refine ⟨org c t, ?_⟩
  show chunkAt m c t i = _
  rw [← hx]
  exact chunkAt_apply m c t x

end Cert.Kernel.Pf

namespace Cert.KernelIdeal.Pf

open Idealize.ShloMosaic
open Idealize.ShloMosaic.TcCoe
open Cert.KernelIdeal Cert.Plan
open Cert.ReferenceIdeal.Pf (half halves halves_apply)

/-- Which half of the whole array a device holds. -/
def side (d : Fin 8) : Fin 2 := ⟨d.val % 2, Nat.mod_lt _ (by decide)⟩

/-- Neighbours along z hold different halves. -/
theorem sides : ∀ d : Fin 8, (side d = 0 ∧ side (zp d) = 1) ∨ (side d = 1 ∧ side (zp d) = 0) := by decide

/-- A device's block of an array, at a place. -/
theorem block_apply (W : FVec Ideal Cert.ReferenceIdeal.S2048x512 .f32) (d : Dev nD) (i : S1024x512.Idx) :
    (Layout.blockN ⟨2, ![1024, 512]⟩ ⟨2, ![2048, 512]⟩ (Layout.meshBlock [2, 2, 2] ![[2], []] d) W) i = W (half (side d) i) := by
  rw [Layout.blockN_apply]
  refine congrArg W (funext fun a => Fin.ext ?_)
  rw [Layout.TilesN.idx_val]
  match a with
  | (0 : Fin 2) =>
    show (d.val / 1 % 2 * 1 + 0) * 1024 + (i (0 : Fin 2)).val = 1024 * (d.val % 2) + (i (0 : Fin 2)).val
    omega
  | (1 : Fin 2) =>
    show 0 * 512 + (i (1 : Fin 2)).val = (i (1 : Fin 2)).val
    omega

/-- Where every device's argument is its block of a whole array, every device's result is the sum of the array's halves. -/
theorem out_eq (m : (ℓ : Loc nD τ sig) → Buf (Elt Ideal) ℓ) (W : FVec Ideal Cert.ReferenceIdeal.S2048x512 .f32)
    (h : ∀ d : Dev nD, m ((d : Thread nD τ).loc main_arg0)
      = Layout.blockN ⟨2, ![1024, 512]⟩ ⟨2, ![2048, 512]⟩ (Layout.meshBlock [2, 2, 2] ![[2], []] d) W) (c : Dev nD) :
    Cert.Kernel.Pf.outAt m c = halves W := by
  funext i
  obtain ⟨d, hd⟩ := Cert.Kernel.Pf.outAt_apply m c i
  have e (d : Fin 8) : Cert.Kernel.Pf.arg m d i = W (half (side d) i) := (congrFun (h d) i).trans (block_apply W d i)
  refine hd.trans ?_
  rw [e, e, Ideal.addf_def, halves_apply]
  rcases sides d with ⟨h1, h2⟩ | ⟨h1, h2⟩
  · rw [h1, h2]
  · rw [h1, h2]; exact add_comm (G := EReal) _ _

end Cert.KernelIdeal.Pf

end
-- ==== Proof.lean ====
/-
# The proof of the claims

The kernel runs on every device and leaves everything quiet (`Cert.Kernel.Pf.final`), the same text read at exact arithmetic
does so too (`Cert.KernelIdeal.Pf.final`), and so does the reference (`Cert.ReferenceIdeal.Pf.final`). No operation was
replaced, so there is nothing to state about replacements. In exact arithmetic the results agree (`Cert.KernelIdeal.Pf.out_eq`).
-/
module

public import proofs.«01_k».proof.Defs
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's run as printed. -/
theorem kernel_quiet : Cert.quiescent_Kernel := fun m g _ =>
  (θ_run _ _ _).mono (fun _ h => ⟨fun c => (h.1 c).2, h.2⟩) (Cert.Kernel.Pf.final m g)

/-- The kernel's run at exact arithmetic. -/
theorem ideal_quiet : Cert.quiescent_KernelIdeal := fun m g _ =>
  (θ_run _ _ _).mono (fun _ h => ⟨fun c => (h.1 c).2, h.2⟩) (Cert.KernelIdeal.Pf.final m g)

/-- The reference's run. -/
theorem reference_quiet : Cert.quiescent_ReferenceIdeal := fun m g _ =>
  (θ_run _ _ _).mono (fun _ h => ⟨fun c => (h.1 c).2, h.2⟩) (Cert.ReferenceIdeal.Pf.final m g)

/-- In exact arithmetic every device ends with the reference's result. -/
theorem values_agree : Cert.algebraic_KernelIdeal_ReferenceIdeal := by
  intro m g m' g' _ hb
  refine ⟨Cert.ReferenceIdeal.Pf.halves (F := Ideal) (m' (((0 : Dev Cert.ReferenceIdeal.nD) : Thread Cert.ReferenceIdeal.nD Cert.ReferenceIdeal.τ).loc Cert.ReferenceIdeal.main_arg0)), ?_, ?_⟩
  · exact (θ_run _ _ _).mono (fun _ h c => ⟨(h.1 c).1.trans (Cert.KernelIdeal.Pf.out_eq m _ hb c), (h.1 c).2⟩) (Cert.KernelIdeal.Pf.final m g)
  · exact (θ_run _ _ _).mono (fun _ h => h.1 0) (Cert.ReferenceIdeal.Pf.final m' g')

/-- All claims, with the side conditions they rest on. -/
theorem claim : Cert.Claim :=
  ⟨Cert.Kernel.Gen.facts, Cert.KernelIdeal.Gen.facts, Cert.ReferenceIdeal.Gen.facts,
    kernel_quiet, ideal_quiet, reference_quiet, trivial, values_agree⟩

end Cert.Proof

end
